-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x6x16384 : Shape := ⟨3, ![2, 6, 16384]⟩
abbrev S_ : Shape := ⟨0, ![]⟩

class Facts : Prop where
  bcast_S_S2x6x16384 : S_.BroadcastsInDim S2x6x16384 (![] : Fin 0 → Fin S2x6x16384.rank)

variable [Facts]

def fn {F : FTy → Type} [FloatOps F] (main_arg0 : FVec F S2x6x16384 .f32) : IVec S2x6x16384 1 :=
  let main_v0 : FVec F S2x6x16384 .f32 := Host.absf main_arg0
  let main_cst : FVec F S_ .f32 := constant S_ .f32 0x7F800000#32
  let main_v1 : FVec F S2x6x16384 .f32 := broadcastInDim S2x6x16384 ![] bcast_S_S2x6x16384 main_cst
  let main_v2 : IVec S2x6x16384 1 := cmpf .olt main_v0 main_v1
  main_v2
-- ==== Kernel.lean ====
abbrev S2x6x16384 : Shape := ⟨3, ![2, 6, 16384]⟩
abbrev S2x16384x6 : Shape := ⟨3, ![2, 16384, 6]⟩
abbrev S32768x6 : Shape := ⟨2, ![32768, 6]⟩
abbrev S512x6 : Shape := ⟨2, ![512, 6]⟩
abbrev S512x4 : Shape := ⟨2, ![512, 4]⟩
abbrev S2048x512 : Shape := ⟨2, ![2048, 512]⟩
abbrev S512x512 : Shape := ⟨2, ![512, 512]⟩
abbrev S2048x1 : Shape := ⟨2, ![2048, 1]⟩
abbrev S6x512 : Shape := ⟨2, ![6, 512]⟩
abbrev S512 : Shape := ⟨1, ![512]⟩
abbrev S1x512 : Shape := ⟨2, ![1, 512]⟩
abbrev S512x1 : Shape := ⟨2, ![512, 1]⟩
abbrev S2048x6 : Shape := ⟨2, ![2048, 6]⟩
abbrev S2048 : Shape := ⟨1, ![2048]⟩

abbrev nBuf : Space → Nat
  | .hbm => 5
  | .vmem => 3
  | .smem => 0
  | _ => 0

abbrev bufTy : (tb : Table) → Fin (tcTables nBuf tb) → BufTy
  | .hbm, ⟨0, _⟩ => ⟨S2x6x16384, .f32⟩
  | .hbm, ⟨1, _⟩ => ⟨S2x16384x6, .f32⟩
  | .hbm, ⟨2, _⟩ => ⟨S32768x6, .f32⟩
  | .hbm, ⟨3, _⟩ => ⟨S512x6, .f32⟩
  | .hbm, ⟨4, _⟩ => ⟨S512x4, .f32⟩
  | .local _ .vmem, ⟨0, _⟩ => ⟨S32768x6, .f32⟩
  | .local _ .vmem, ⟨1, _⟩ => ⟨S512x6, .f32⟩
  | .local _ .vmem, ⟨2, _⟩ => ⟨S512x4, .f32⟩
  | _, _ => ⟨S2x6x16384, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c7_i32 : BitVec 32 := 7#32
  let v10 : BitVec 32 := Scalar.addi c0_i32 c7_i32
  let c1_i32 : BitVec 32 := 1#32
  ⟨c0_i32, v10, c1_i32⟩
@[reducible] def k0_t2_loop : Scf.Loop 32 :=
  let c0_i32_29 : BitVec 32 := 0#32
  let c16_i32_30 : BitVec 32 := 16#32
  let v96 : BitVec 32 := Scalar.addi c0_i32_29 c16_i32_30
  let c1_i32_31 : BitVec 32 := 1#32
  ⟨c0_i32_29, v96, c1_i32_31⟩
def k0_off1 (k0_t2 : Fin k0_t2_loop.trips) : Fin 2 → Nat :=
  let c0_i32_29 : BitVec 32 := 0#32
  let c1_i32_31 : BitVec 32 := 1#32
  let arg5 : BitVec 32 := Scf.iv c0_i32_29 c1_i32_31 k0_t2
  let c2048_i32 : BitVec 32 := 2048#32
  let v107 : BitVec 32 := Scalar.muli arg5 c2048_i32
  let v108 : Index := Scalar.indexCast v107
  let c0_35 : Index := 0#32
  ![v108.toNat, 0]
@[reducible] def k0_t3_loop : Scf.Loop 32 :=
  let c0_i32_9 : BitVec 32 := 0#32
  let c16_i32 : BitVec 32 := 16#32
  let v44 : BitVec 32 := Scalar.addi c0_i32_9 c16_i32
  let c1_i32_10 : BitVec 32 := 1#32
  ⟨c0_i32_9, v44, c1_i32_10⟩
abbrev stage0_0 : Fin 1 → Memref sig .tc .vmem S32768x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x6x16384 : Shape := ⟨3, ![2, 6, 16384]⟩
abbrev S2x16384x6 : Shape := ⟨3, ![2, 16384, 6]⟩
abbrev S32768x6 : Shape := ⟨2, ![32768, 6]⟩
abbrev S512x6 : Shape := ⟨2, ![512, 6]⟩
abbrev S_ : Shape := ⟨0, ![]⟩
abbrev S32768 : Shape := ⟨1, ![32768]⟩
abbrev S32768x1 : Shape := ⟨2, ![32768, 1]⟩
abbrev S6x512 : Shape := ⟨2, ![6, 512]⟩
abbrev S32768x512 : Shape := ⟨2, ![32768, 512]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S512x16 : Shape := ⟨2, ![512, 16]⟩
abbrev S8192 : Shape := ⟨1, ![8192]⟩
abbrev S8192x1 : Shape := ⟨2, ![8192, 1]⟩
abbrev S8192x2 : Shape := ⟨2, ![8192, 2]⟩
abbrev S512x4 : Shape := ⟨2, ![512, 4]⟩

abbrev nBuf : Space → Nat
  | .hbm => 214
  | .vmem => 0
  | .smem => 0
  | _ => 0

abbrev hbmTy0_0 (i : Nat) : BufTy := match i % 128 with
  | 0 => ⟨S2x6x16384, .f32⟩
  | 1 => ⟨S2x16384x6, .f32⟩
  | 2 => ⟨S32768x6, .f32⟩
  | 3 => ⟨S512x6, .f32⟩
  | 4 => ⟨S_, .i32⟩
  | 5 => ⟨S32768x6, .f32⟩
  | 6 => ⟨S_, .i32⟩
  | 7 => ⟨S512x6, .f32⟩
  | 8 => ⟨S_, .i32⟩
  | 9 => ⟨S_, .i1⟩
  | 10 => ⟨S32768x6, .f32⟩
  | 11 => ⟨S_, .f32⟩
  | 12 => ⟨S32768, .f32⟩
  | 13 => ⟨S32768x1, .f32⟩
  | 14 => ⟨S6x512, .f32⟩
  | 15 => ⟨S32768x512, .f32⟩
  | 16 => ⟨S_, .f32⟩
  | 17 => ⟨S32768x512, .f32⟩
  | 18 => ⟨S32768x512, .f32⟩
  | 19 => ⟨S32768x512, .f32⟩
  | 20 => ⟨S32768x512, .f32⟩
  | 21 => ⟨S512x6, .f32⟩
  | 22 => ⟨S_, .f32⟩
  | 23 => ⟨S512, .f32⟩
  | 24 => ⟨S1x512, .f32⟩
  | 25 => ⟨S32768x512, .f32⟩
  | 26 => ⟨S32768x512, .f32⟩
  | 27 => ⟨S32768x512, .i32⟩
  | 28 => ⟨S_, .f32⟩
  | 29 => ⟨S_, .i32⟩
  | 30 => ⟨S32768, .f32⟩
  | 31 => ⟨S32768, .i32⟩
  | 32 => ⟨S_, .f32⟩
  | 33 => ⟨S512x6, .f32⟩
  | 34 => ⟨S_, .i32⟩
  | 35 => ⟨S32768, .i32⟩
  | 36 => ⟨S32768, .i1⟩
  | 37 => ⟨S_, .i32⟩
  | 38 => ⟨S32768, .i32⟩
  | 39 => ⟨S32768, .i32⟩
  | 40 => ⟨S32768, .i32⟩
  | 41 => ⟨S32768x1, .i32⟩
  | 42 => ⟨S512x6, .f32⟩
  | 43 => ⟨S_, .f32⟩
  | 44 => ⟨S512, .f32⟩
  | 45 => ⟨S_, .i32⟩
  | 46 => ⟨S32768, .i32⟩
  | 47 => ⟨S32768, .i1⟩
  | 48 => ⟨S_, .i32⟩
  | 49 => ⟨S32768, .i32⟩
  | 50 => ⟨S32768, .i32⟩
  | 51 => ⟨S32768, .i32⟩
  | 52 => ⟨S32768x1, .i32⟩
  | 53 => ⟨S_, .f32⟩
  | 54 => ⟨S32768, .f32⟩
  | 55 => ⟨S512, .f32⟩
  | 56 => ⟨S_, .f32⟩
  | 57 => ⟨S512, .f32⟩
  | 58 => ⟨S512, .f32⟩
  | 59 => ⟨S512x1, .f32⟩
  | 60 => ⟨S512x6, .f32⟩
  | 61 => ⟨S512x6, .f32⟩
  | 62 => ⟨S512x1, .f32⟩
  | 63 => ⟨S_, .f32⟩
  | 64 => ⟨S512x1, .f32⟩
  | 65 => ⟨S512x1, .i1⟩
  | 66 => ⟨S512x6, .i1⟩
  | 67 => ⟨S512x6, .f32⟩
  | 68 => ⟨S_, .i32⟩
  | 69 => ⟨S_, .i32⟩
  | 70 => ⟨S32768x6, .f32⟩
  | 71 => ⟨S_, .f32⟩
  | 72 => ⟨S32768, .f32⟩
  | 73 => ⟨S32768x1, .f32⟩
  | 74 => ⟨S6x512, .f32⟩
  | 75 => ⟨S32768x512, .f32⟩
  | 76 => ⟨S_, .f32⟩
  | 77 => ⟨S32768x512, .f32⟩
  | 78 => ⟨S32768x512, .f32⟩
  | 79 => ⟨S32768x512, .f32⟩
  | 80 => ⟨S32768x512, .f32⟩
  | 81 => ⟨S512x6, .f32⟩
  | 82 => ⟨S_, .f32⟩
  | 83 => ⟨S512, .f32⟩
  | 84 => ⟨S1x512, .f32⟩
  | 85 => ⟨S32768x512, .f32⟩
  | 86 => ⟨S32768x512, .f32⟩
  | 87 => ⟨S32768x512, .i32⟩
  | 88 => ⟨S_, .f32⟩
  | 89 => ⟨S_, .i32⟩
  | 90 => ⟨S32768, .f32⟩
  | 91 => ⟨S32768, .i32⟩
  | 92 => ⟨S_, .f32⟩
  | 93 => ⟨S512x6, .f32⟩
  | 94 => ⟨S_, .i32⟩
  | 95 => ⟨S32768, .i32⟩
  | 96 => ⟨S32768, .i1⟩
  | 97 => ⟨S_, .i32⟩
  | 98 => ⟨S32768, .i32⟩
  | 99 => ⟨S32768, .i32⟩
  | 100 => ⟨S32768, .i32⟩
  | 101 => ⟨S32768x1, .i32⟩
  | 102 => ⟨S512x6, .f32⟩
  | 103 => ⟨S_, .f32⟩
  | 104 => ⟨S512, .f32⟩
  | 105 => ⟨S_, .i32⟩
  | 106 => ⟨S32768, .i32⟩
  | 107 => ⟨S32768, .i1⟩
  | 108 => ⟨S_, .i32⟩
  | 109 => ⟨S32768, .i32⟩
  | 110 => ⟨S32768, .i32⟩
  | 111 => ⟨S32768, .i32⟩
  | 112 => ⟨S32768x1, .i32⟩
  | 113 => ⟨S_, .f32⟩
  | 114 => ⟨S32768, .f32⟩
  | 115 => ⟨S512, .f32⟩
  | 116 => ⟨S_, .f32⟩
  | 117 => ⟨S512, .f32⟩
  | 118 => ⟨S512, .f32⟩
  | 119 => ⟨S512x1, .f32⟩
  | 120 => ⟨S512x6, .f32⟩
  | 121 => ⟨S512x6, .f32⟩
  | 122 => ⟨S512x1, .f32⟩
  | 123 => ⟨S_, .f32⟩
  | 124 => ⟨S512x1, .f32⟩
  | 125 => ⟨S512x1, .i1⟩
  | 126 => ⟨S512x6, .i1⟩
  | 127 => ⟨S512x6, .f32⟩
  | _ => ⟨S2x6x16384, .f32⟩

abbrev hbmTy0_1 (i : Nat) : BufTy := match i % 128 with
  | 0 => ⟨S512x6, .f32⟩
  | 1 => ⟨S_, .f32⟩
  | 2 => ⟨S512, .f32⟩
  | 3 => ⟨S512x1, .f32⟩
  | 4 => ⟨S6x512, .f32⟩
  | 5 => ⟨S512x512, .f32⟩
  | 6 => ⟨S_, .f32⟩
  | 7 => ⟨S512x512, .f32⟩
  | 8 => ⟨S512x512, .f32⟩
  | 9 => ⟨S512x512, .f32⟩
  | 10 => ⟨S512x512, .f32⟩
  | 11 => ⟨S512x6, .f32⟩
  | 12 => ⟨S_, .f32⟩
  | 13 => ⟨S512, .f32⟩
  | 14 => ⟨S1x512, .f32⟩
  | 15 => ⟨S512x512, .f32⟩
  | 16 => ⟨S512x512, .f32⟩
  | 17 => ⟨S512x512, .f32⟩
  | 18 => ⟨S512x16, .f32⟩
  | 19 => ⟨S512x16, .i32⟩
  | 20 => ⟨S8192, .i32⟩
  | 21 => ⟨S512, .i32⟩
  | 22 => ⟨S512x16, .i32⟩
  | 23 => ⟨S8192, .i32⟩
  | 24 => ⟨S_, .f32⟩
  | 25 => ⟨S512x512, .f32⟩
  | 26 => ⟨S_, .i32⟩
  | 27 => ⟨S8192, .i32⟩
  | 28 => ⟨S8192, .i1⟩
  | 29 => ⟨S_, .i32⟩
  | 30 => ⟨S8192, .i32⟩
  | 31 => ⟨S8192, .i32⟩
  | 32 => ⟨S8192, .i32⟩
  | 33 => ⟨S_, .i32⟩
  | 34 => ⟨S8192, .i32⟩
  | 35 => ⟨S8192, .i1⟩
  | 36 => ⟨S_, .i32⟩
  | 37 => ⟨S8192, .i32⟩
  | 38 => ⟨S8192, .i32⟩
  | 39 => ⟨S8192, .i32⟩
  | 40 => ⟨S8192x1, .i32⟩
  | 41 => ⟨S8192x1, .i32⟩
  | 42 => ⟨S8192x2, .i32⟩
  | 43 => ⟨S_, .f32⟩
  | 44 => ⟨S8192, .f32⟩
  | 45 => ⟨S512x512, .f32⟩
  | 46 => ⟨S_, .f32⟩
  | 47 => ⟨S512, .f32⟩
  | 48 => ⟨S_, .f32⟩
  | 49 => ⟨S512, .f32⟩
  | 50 => ⟨S512, .i1⟩
  | 51 => ⟨S512, .f32⟩
  | 52 => ⟨S_, .f32⟩
  | 53 => ⟨S512, .f32⟩
  | 54 => ⟨S512x512, .i32⟩
  | 55 => ⟨S512x512, .i32⟩
  | 56 => ⟨S_, .i32⟩
  | 57 => ⟨S512x512, .i32⟩
  | 58 => ⟨S512x512, .i32⟩
  | 59 => ⟨S512x512, .i1⟩
  | 60 => ⟨S512x1, .f32⟩
  | 61 => ⟨S_, .f32⟩
  | 62 => ⟨S512x512, .f32⟩
  | 63 => ⟨S512x512, .f32⟩
  | 64 => ⟨S512x512, .f32⟩
  | 65 => ⟨S512x512, .f32⟩
  | 66 => ⟨S_, .f32⟩
  | 67 => ⟨S512, .f32⟩
  | 68 => ⟨S_, .f32⟩
  | 69 => ⟨S512, .f32⟩
  | 70 => ⟨S512x512, .f32⟩
  | 71 => ⟨S512x6, .f32⟩
  | 72 => ⟨S_, .f32⟩
  | 73 => ⟨S512, .f32⟩
  | 74 => ⟨S512, .f32⟩
  | 75 => ⟨S512x1, .f32⟩
  | 76 => ⟨S512x6, .f32⟩
  | 77 => ⟨S512x6, .f32⟩
  | 78 => ⟨S512x6, .f32⟩
  | 79 => ⟨S_, .f32⟩
  | 80 => ⟨S512, .f32⟩
  | 81 => ⟨S512, .f32⟩
  | 82 => ⟨S512x1, .f32⟩
  | 83 => ⟨S512x6, .f32⟩
  | 84 => ⟨S512x6, .f32⟩
  | 85 => ⟨S512x4, .f32⟩
  | _ => ⟨S2x6x16384, .f32⟩

abbrev hbmTy (i : Nat) : BufTy := match i / 128 with
  | 0 => hbmTy0_0 i
  | 1 => hbmTy0_1 i
  | _ => ⟨S2x6x16384, .f32⟩

abbrev bufTy : (tb : Table) → Fin (tcTables nBuf tb) → BufTy
  | .hbm, ⟨i, _⟩ => hbmTy i
  | _, _ => ⟨S2x6x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_while0c_c_28 : Ref sig .tc := ⟨.hbm, 8, rfl⟩
abbrev main_while0c_v102 : Ref sig .tc := ⟨.hbm, 9, rfl⟩
abbrev main_while0b_v102 : Ref sig .tc := ⟨.hbm, 10, rfl⟩
abbrev main_while0b_cst_28 : Ref sig .tc := ⟨.hbm, 11, rfl⟩
abbrev main_while0b_v103 : Ref sig .tc := ⟨.hbm, 12, rfl⟩
abbrev main_while0b_v104 : Ref sig .tc := ⟨.hbm, 13, rfl⟩
abbrev main_while0b_v105 : Ref sig .tc := ⟨.hbm, 14, rfl⟩
abbrev main_while0b_v106 : Ref sig .tc := ⟨.hbm, 15, rfl⟩
abbrev main_while0b_cst_29 : Ref sig .tc := ⟨.hbm, 16, rfl⟩
abbrev main_while0b_v107 : Ref sig .tc := ⟨.hbm, 17, rfl⟩
abbrev main_while0b_v108 : Ref sig .tc := ⟨.hbm, 18, rfl⟩
abbrev main_while0b_v109 : Ref sig .tc := ⟨.hbm, 19, rfl⟩
abbrev main_while0b_v110 : Ref sig .tc := ⟨.hbm, 20, rfl⟩
abbrev main_while0b_v111 : Ref sig .tc := ⟨.hbm, 21, rfl⟩
abbrev main_while0b_cst_30 : Ref sig .tc := ⟨.hbm, 22, rfl⟩
abbrev main_while0b_v112 : Ref sig .tc := ⟨.hbm, 23, rfl⟩
abbrev main_while0b_v113 : Ref sig .tc := ⟨.hbm, 24, rfl⟩
abbrev main_while0b_v114 : Ref sig .tc := ⟨.hbm, 25, rfl⟩
abbrev main_while0b_v115 : Ref sig .tc := ⟨.hbm, 26, rfl⟩
abbrev main_while0b_call0_v0 : Ref sig .tc := ⟨.hbm, 27, rfl⟩
abbrev main_while0b_call0_cst : Ref sig .tc := ⟨.hbm, 28, rfl⟩
abbrev main_while0b_call0_c : Ref sig .tc := ⟨.hbm, 29, rfl⟩
abbrev main_while0b_call0_v1_0 : Ref sig .tc := ⟨.hbm, 30, rfl⟩
abbrev main_while0b_v116 : Ref sig .tc := ⟨.hbm, 31, rfl⟩
abbrev main_while0b_cst_31 : Ref sig .tc := ⟨.hbm, 32, rfl⟩
abbrev main_while0b_v117 : Ref sig .tc := ⟨.hbm, 33, rfl⟩
abbrev main_while0b_c_32 : Ref sig .tc := ⟨.hbm, 34, rfl⟩
abbrev main_while0b_v118 : Ref sig .tc := ⟨.hbm, 35, rfl⟩
abbrev main_while0b_v119 : Ref sig .tc := ⟨.hbm, 36, rfl⟩
abbrev main_while0b_c_33 : Ref sig .tc := ⟨.hbm, 37, rfl⟩
abbrev main_while0b_v120 : Ref sig .tc := ⟨.hbm, 38, rfl⟩
abbrev main_while0b_v121 : Ref sig .tc := ⟨.hbm, 39, rfl⟩
abbrev main_while0b_v122 : Ref sig .tc := ⟨.hbm, 40, rfl⟩
abbrev main_while0b_v123 : Ref sig .tc := ⟨.hbm, 41, rfl⟩
abbrev main_while0b_v124 : Ref sig .tc := ⟨.hbm, 42, rfl⟩
abbrev main_while0b_cst_34 : Ref sig .tc := ⟨.hbm, 43, rfl⟩
abbrev main_while0b_v125 : Ref sig .tc := ⟨.hbm, 44, rfl⟩
abbrev main_while0b_c_35 : Ref sig .tc := ⟨.hbm, 45, rfl⟩
abbrev main_while0b_v126 : Ref sig .tc := ⟨.hbm, 46, rfl⟩
abbrev main_while0b_v127 : Ref sig .tc := ⟨.hbm, 47, rfl⟩
abbrev main_while0b_c_36 : Ref sig .tc := ⟨.hbm, 48, rfl⟩
abbrev main_while0b_v128 : Ref sig .tc := ⟨.hbm, 49, rfl⟩
abbrev main_while0b_v129 : Ref sig .tc := ⟨.hbm, 50, rfl⟩
abbrev main_while0b_v130 : Ref sig .tc := ⟨.hbm, 51, rfl⟩
abbrev main_while0b_v131 : Ref sig .tc := ⟨.hbm, 52, rfl⟩
abbrev main_while0b_cst_37 : Ref sig .tc := ⟨.hbm, 53, rfl⟩
abbrev main_while0b_v132 : Ref sig .tc := ⟨.hbm, 54, rfl⟩
abbrev main_while0b_v133 : Ref sig .tc := ⟨.hbm, 55, rfl⟩
abbrev main_while0b_cst_38 : Ref sig .tc := ⟨.hbm, 56, rfl⟩
abbrev main_while0b_v134 : Ref sig .tc := ⟨.hbm, 57, rfl⟩
abbrev main_while0b_v135 : Ref sig .tc := ⟨.hbm, 58, rfl⟩
abbrev main_while0b_v136 : Ref sig .tc := ⟨.hbm, 59, rfl⟩
abbrev main_while0b_v137 : Ref sig .tc := ⟨.hbm, 60, rfl⟩
abbrev main_while0b_v138 : Ref sig .tc := ⟨.hbm, 61, rfl⟩
abbrev main_while0b_v139 : Ref sig .tc := ⟨.hbm, 62, rfl⟩
abbrev main_while0b_cst_39 : Ref sig .tc := ⟨.hbm, 63, rfl⟩
abbrev main_while0b_v140 : Ref sig .tc := ⟨.hbm, 64, rfl⟩
abbrev main_while0b_v141 : Ref sig .tc := ⟨.hbm, 65, rfl⟩
abbrev main_while0b_call1_v0 : Ref sig .tc := ⟨.hbm, 66, rfl⟩
abbrev main_while0b_v142 : Ref sig .tc := ⟨.hbm, 67, rfl⟩
abbrev main_while0b_c_40 : Ref sig .tc := ⟨.hbm, 68, rfl⟩
abbrev main_while0b_v143 : Ref sig .tc := ⟨.hbm, 69, rfl⟩
abbrev main_v4 : Ref sig .tc := ⟨.hbm, 70, rfl⟩
abbrev main_cst : Ref sig .tc := ⟨.hbm, 71, rfl⟩
abbrev main_v5 : Ref sig .tc := ⟨.hbm, 72, rfl⟩
abbrev main_v6 : Ref sig .tc := ⟨.hbm, 73, rfl⟩
abbrev main_v7 : Ref sig .tc := ⟨.hbm, 74, rfl⟩
abbrev main_v8 : Ref sig .tc := ⟨.hbm, 75, rfl⟩
abbrev main_cst_0 : Ref sig .tc := ⟨.hbm, 76, rfl⟩
abbrev main_v9 : Ref sig .tc := ⟨.hbm, 77, rfl⟩
abbrev main_v10 : Ref sig .tc := ⟨.hbm, 78, rfl⟩
abbrev main_v11 : Ref sig .tc := ⟨.hbm, 79, rfl⟩
abbrev main_v12 : Ref sig .tc := ⟨.hbm, 80, rfl⟩
abbrev main_v13 : Ref sig .tc := ⟨.hbm, 81, rfl⟩
abbrev main_cst_1 : Ref sig .tc := ⟨.hbm, 82, rfl⟩
abbrev main_v14 : Ref sig .tc := ⟨.hbm, 83, rfl⟩
abbrev main_v15 : Ref sig .tc := ⟨.hbm, 84, rfl⟩
abbrev main_v16 : Ref sig .tc := ⟨.hbm, 85, rfl⟩
abbrev main_v17 : Ref sig .tc := ⟨.hbm, 86, rfl⟩
abbrev main_call2_v0 : Ref sig .tc := ⟨.hbm, 87, rfl⟩
abbrev main_call2_cst : Ref sig .tc := ⟨.hbm, 88, rfl⟩
abbrev main_call2_c : Ref sig .tc := ⟨.hbm, 89, rfl⟩
abbrev main_call2_v1_0 : Ref sig .tc := ⟨.hbm, 90, rfl⟩
abbrev main_v18 : Ref sig .tc := ⟨.hbm, 91, rfl⟩
abbrev main_cst_2 : Ref sig .tc := ⟨.hbm, 92, rfl⟩
abbrev main_v19 : Ref sig .tc := ⟨.hbm, 93, rfl⟩
abbrev main_c_3 : Ref sig .tc := ⟨.hbm, 94, rfl⟩
abbrev main_v20 : Ref sig .tc := ⟨.hbm, 95, rfl⟩
abbrev main_v21 : Ref sig .tc := ⟨.hbm, 96, rfl⟩
abbrev main_c_4 : Ref sig .tc := ⟨.hbm, 97, rfl⟩
abbrev main_v22 : Ref sig .tc := ⟨.hbm, 98, rfl⟩
abbrev main_v23 : Ref sig .tc := ⟨.hbm, 99, rfl⟩
abbrev main_v24 : Ref sig .tc := ⟨.hbm, 100, rfl⟩
abbrev main_v25 : Ref sig .tc := ⟨.hbm, 101, rfl⟩
abbrev main_v26 : Ref sig .tc := ⟨.hbm, 102, rfl⟩
abbrev main_cst_5 : Ref sig .tc := ⟨.hbm, 103, rfl⟩
abbrev main_v27 : Ref sig .tc := ⟨.hbm, 104, rfl⟩
abbrev main_c_6 : Ref sig .tc := ⟨.hbm, 105, rfl⟩
abbrev main_v28 : Ref sig .tc := ⟨.hbm, 106, rfl⟩
abbrev main_v29 : Ref sig .tc := ⟨.hbm, 107, rfl⟩
abbrev main_c_7 : Ref sig .tc := ⟨.hbm, 108, rfl⟩
abbrev main_v30 : Ref sig .tc := ⟨.hbm, 109, rfl⟩
abbrev main_v31 : Ref sig .tc := ⟨.hbm, 110, rfl⟩
abbrev main_v32 : Ref sig .tc := ⟨.hbm, 111, rfl⟩
abbrev main_v33 : Ref sig .tc := ⟨.hbm, 112, rfl⟩
abbrev main_cst_8 : Ref sig .tc := ⟨.hbm, 113, rfl⟩
abbrev main_v34 : Ref sig .tc := ⟨.hbm, 114, rfl⟩
abbrev main_v35 : Ref sig .tc := ⟨.hbm, 115, rfl⟩
abbrev main_cst_9 : Ref sig .tc := ⟨.hbm, 116, rfl⟩
abbrev main_v36 : Ref sig .tc := ⟨.hbm, 117, rfl⟩
abbrev main_v37 : Ref sig .tc := ⟨.hbm, 118, rfl⟩
abbrev main_v38 : Ref sig .tc := ⟨.hbm, 119, rfl⟩
abbrev main_v39 : Ref sig .tc := ⟨.hbm, 120, rfl⟩
abbrev main_v40 : Ref sig .tc := ⟨.hbm, 121, rfl⟩
abbrev main_v41 : Ref sig .tc := ⟨.hbm, 122, rfl⟩
abbrev main_cst_10 : Ref sig .tc := ⟨.hbm, 123, rfl⟩
abbrev main_v42 : Ref sig .tc := ⟨.hbm, 124, rfl⟩
abbrev main_v43 : Ref sig .tc := ⟨.hbm, 125, rfl⟩
abbrev main_call3_v0 : Ref sig .tc := ⟨.hbm, 126, rfl⟩
abbrev main_v44 : Ref sig .tc := ⟨.hbm, 127, rfl⟩
abbrev main_v45 : Ref sig .tc := ⟨.hbm, 128, rfl⟩
abbrev main_cst_11 : Ref sig .tc := ⟨.hbm, 129, rfl⟩
abbrev main_v46 : Ref sig .tc := ⟨.hbm, 130, rfl⟩
abbrev main_v47 : Ref sig .tc := ⟨.hbm, 131, rfl⟩
abbrev main_v48 : Ref sig .tc := ⟨.hbm, 132, rfl⟩
abbrev main_v49 : Ref sig .tc := ⟨.hbm, 133, rfl⟩
abbrev main_cst_12 : Ref sig .tc := ⟨.hbm, 134, rfl⟩
abbrev main_v50 : Ref sig .tc := ⟨.hbm, 135, rfl⟩
abbrev main_v51 : Ref sig .tc := ⟨.hbm, 136, rfl⟩
abbrev main_v52 : Ref sig .tc := ⟨.hbm, 137, rfl⟩
abbrev main_v53 : Ref sig .tc := ⟨.hbm, 138, rfl⟩
abbrev main_v54 : Ref sig .tc := ⟨.hbm, 139, rfl⟩
abbrev main_cst_13 : Ref sig .tc := ⟨.hbm, 140, rfl⟩
abbrev main_v55 : Ref sig .tc := ⟨.hbm, 141, rfl⟩
abbrev main_v56 : Ref sig .tc := ⟨.hbm, 142, rfl⟩
abbrev main_v57 : Ref sig .tc := ⟨.hbm, 143, rfl⟩
abbrev main_v58 : Ref sig .tc := ⟨.hbm, 144, rfl⟩
abbrev main_v59 : Ref sig .tc := ⟨.hbm, 145, rfl⟩
abbrev main_values : Ref sig .tc := ⟨.hbm, 146, rfl⟩
abbrev main_indices : Ref sig .tc := ⟨.hbm, 147, rfl⟩
abbrev main_v60 : Ref sig .tc := ⟨.hbm, 148, rfl⟩
abbrev main_v61 : Ref sig .tc := ⟨.hbm, 149, rfl⟩
abbrev main_v62 : Ref sig .tc := ⟨.hbm, 150, rfl⟩
abbrev main_v63 : Ref sig .tc := ⟨.hbm, 151, rfl⟩
abbrev main_cst_14 : Ref sig .tc := ⟨.hbm, 152, rfl⟩
abbrev main_v64 : Ref sig .tc := ⟨.hbm, 153, rfl⟩
abbrev main_c_15 : Ref sig .tc := ⟨.hbm, 154, rfl⟩
abbrev main_v65 : Ref sig .tc := ⟨.hbm, 155, rfl⟩
abbrev main_v66 : Ref sig .tc := ⟨.hbm, 156, rfl⟩
abbrev main_c_16 : Ref sig .tc := ⟨.hbm, 157, rfl⟩
abbrev main_v67 : Ref sig .tc := ⟨.hbm, 158, rfl⟩
abbrev main_v68 : Ref sig .tc := ⟨.hbm, 159, rfl⟩
abbrev main_v69 : Ref sig .tc := ⟨.hbm, 160, rfl⟩
abbrev main_c_17 : Ref sig .tc := ⟨.hbm, 161, rfl⟩
abbrev main_v70 : Ref sig .tc := ⟨.hbm, 162, rfl⟩
abbrev main_v71 : Ref sig .tc := ⟨.hbm, 163, rfl⟩
abbrev main_c_18 : Ref sig .tc := ⟨.hbm, 164, rfl⟩
abbrev main_v72 : Ref sig .tc := ⟨.hbm, 165, rfl⟩
abbrev main_v73 : Ref sig .tc := ⟨.hbm, 166, rfl⟩
abbrev main_v74 : Ref sig .tc := ⟨.hbm, 167, rfl⟩
abbrev main_v75 : Ref sig .tc := ⟨.hbm, 168, rfl⟩
abbrev main_v76 : Ref sig .tc := ⟨.hbm, 169, rfl⟩
abbrev main_v77 : Ref sig .tc := ⟨.hbm, 170, rfl⟩
abbrev main_cst_19 : Ref sig .tc := ⟨.hbm, 171, rfl⟩
abbrev main_v78 : Ref sig .tc := ⟨.hbm, 172, rfl⟩
abbrev main_v79 : Ref sig .tc := ⟨.hbm, 173, rfl⟩
abbrev main_cst_20 : Ref sig .tc := ⟨.hbm, 174, rfl⟩
abbrev main_v80 : Ref sig .tc := ⟨.hbm, 175, rfl⟩
abbrev main_cst_21 : Ref sig .tc := ⟨.hbm, 176, rfl⟩
abbrev main_v81 : Ref sig .tc := ⟨.hbm, 177, rfl⟩
abbrev main_v82 : Ref sig .tc := ⟨.hbm, 178, rfl⟩
abbrev main_v83 : Ref sig .tc := ⟨.hbm, 179, rfl⟩
abbrev main_call4_cst : Ref sig .tc := ⟨.hbm, 180, rfl⟩
abbrev main_call4_v0 : Ref sig .tc := ⟨.hbm, 181, rfl⟩
abbrev main_call4_v1 : Ref sig .tc := ⟨.hbm, 182, rfl⟩
abbrev main_call4_v2 : Ref sig .tc := ⟨.hbm, 183, rfl⟩
abbrev main_call4_c : Ref sig .tc := ⟨.hbm, 184, rfl⟩
abbrev main_call4_v3 : Ref sig .tc := ⟨.hbm, 185, rfl⟩
abbrev main_call4_v4 : Ref sig .tc := ⟨.hbm, 186, rfl⟩
abbrev main_call4_v5 : Ref sig .tc := ⟨.hbm, 187, rfl⟩
abbrev main_call4_v6 : Ref sig .tc := ⟨.hbm, 188, rfl⟩
abbrev main_call4_cst_0 : Ref sig .tc := ⟨.hbm, 189, rfl⟩
abbrev main_call4_call0_v0 : Ref sig .tc := ⟨.hbm, 190, rfl⟩
abbrev main_call4_call0_v1 : Ref sig .tc := ⟨.hbm, 191, rfl⟩
abbrev main_v84 : Ref sig .tc := ⟨.hbm, 192, rfl⟩
abbrev main_v85 : Ref sig .tc := ⟨.hbm, 193, rfl⟩
abbrev main_cst_22 : Ref sig .tc := ⟨.hbm, 194, rfl⟩
abbrev main_v86 : Ref sig .tc := ⟨.hbm, 195, rfl⟩
abbrev main_cst_23 : Ref sig .tc := ⟨.hbm, 196, rfl⟩
abbrev main_v87 : Ref sig .tc := ⟨.hbm, 197, rfl⟩
abbrev main_v88 : Ref sig .tc := ⟨.hbm, 198, rfl⟩
abbrev main_v89 : Ref sig .tc := ⟨.hbm, 199, rfl⟩
abbrev main_cst_24 : Ref sig .tc := ⟨.hbm, 200, rfl⟩
abbrev main_v90 : Ref sig .tc := ⟨.hbm, 201, rfl⟩
abbrev main_v91 : Ref sig .tc := ⟨.hbm, 202, rfl⟩
abbrev main_v92 : Ref sig .tc := ⟨.hbm, 203, rfl⟩
abbrev main_v93 : Ref sig .tc := ⟨.hbm, 204, rfl⟩
abbrev main_v94 : Ref sig .tc := ⟨.hbm, 205, rfl⟩
abbrev main_v95 : Ref sig .tc := ⟨.hbm, 206, rfl⟩
abbrev main_cst_25 : Ref sig .tc := ⟨.hbm, 207, rfl⟩
abbrev main_v96 : Ref sig .tc := ⟨.hbm, 208, rfl⟩
abbrev main_v97 : Ref sig .tc := ⟨.hbm, 209, rfl⟩
abbrev main_v98 : Ref sig .tc := ⟨.hbm, 210, rfl⟩
abbrev main_v99 : Ref sig .tc := ⟨.hbm, 211, rfl⟩
abbrev main_v100 : Ref sig .tc := ⟨.hbm, 212, rfl⟩
abbrev main_v101 : Ref sig .tc := ⟨.hbm, 213, rfl⟩

abbrev nD : Nat := 1
abbrev τ : Topo := Topo.v7x

variable {F : FTy → Type} [FloatOps F]

abbrev main_while0_count : Scf.Loop 32 := ⟨0#32, 6#32, 1#32⟩
-- ==== Proof.KernelValue.lean ====
/- The kernel's result array as a function of the points and the first centres. -/
module

public import proofs.«01_k».proof.Proof.Gen.KernelIdeal.Value
public import Idealize.ShloMosaic.Lib.Tactic

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]

/-! ## The kernel's stages as functions of arrays -/

/-- The block of points of inner trip `k`. -/
def blkK (p : Vec F S32768x6 .f32) (k : Fin k0_t2_loop.trips) : Vec F S2048x6 .f32 :=
  View.ld p (Rect.unit (s := S32768x6) (k0_off1 k) S2048x6.size (k0_off1_inb k))

/-- One block added to the sums and the counts. -/
def addK (p : Vec F S32768x6 .f32) (cen : FVec F S512x6 .f32) (k : ℕ) (a : FVec F S512x6 .f32 × FVec F S512x1 .f32) : FVec F S512x6 .f32 × FVec F S512x1 .f32 :=
  if h : k < k0_t2_loop.trips then (k0_pay12 cen a.1 (blkK p ⟨k, h⟩), k0_pay13 cen a.2 (blkK p ⟨k, h⟩)) else a

/-- The sums and the counts after the first `n` blocks. -/
def accK (p : Vec F S32768x6 .f32) (cen : FVec F S512x6 .f32) : ℕ → FVec F S512x6 .f32 × FVec F S512x1 .f32
  | 0 => (k0_pay8, k0_pay9)
  | n + 1 => addK p cen n (accK p cen n)

/-- One clustering step of the kernel. -/
def stepK (p : Vec F S32768x6 .f32) (cen : FVec F S512x6 .f32) : FVec F S512x6 .f32 :=
  k0_pay14 cen (accK p cen 16).1 (accK p cen 16).2

/-- The numbers of the columns. -/
abbrev colK : IVec S512x512 32 := iota .tc S512x512 32 [1] iota_S512x512_d1_w32

/-- One pick: the marked matrix and the distances left. -/
def pickK (a : FVec F S512x512 .f32 × FVec F S512x512 .f32) : FVec F S512x512 .f32 × FVec F S512x512 .f32 :=
  (k0_pay2 colK a.1 a.2, k0_pay3 colK a.2)

/-- The hypergraph stage of the kernel. -/
def hyperK (cen : FVec F S512x6 .f32) : FVec F S512x4 .f32 :=
  k0_pay4 k0_pay5 cen (pickK^[16] (k0_pay16, k0_pay15 cen)).1

/-- The kernel's result from the points and the first centres. -/
def outK (p : Vec F S32768x6 .f32) (c0 : Vec F S512x6 .f32) : FVec F S512x4 .f32 := hyperK ((stepK p)^[7] c0)

/-! ## The loops -/

theorem hz : (![0, 0] : Fin 2 → Nat) = fun _ => 0 := funext fun a => by fin_cases a <;> rfl

section Loops

variable (c : Dev nD) (bd : Option Variants.none.V) (arg0 : Memref sig .tc .vmem S32768x6 .f32) (harg0 : arg0.IsWhole)
  (arg1 : Memref sig .tc .vmem S512x6 .f32) (harg1 : arg1.IsWhole) (arg2 : Memref sig .tc .vmem S512x4 .f32) (harg2 : arg2.IsWhole)

theorem trip2 (cen : FVec F S512x6 .f32) (p : Vec F S32768x6 .f32) (k : Fin k0_t2_loop.trips) (acc : FVec F S512x6 .f32 × FVec F S512x1 .f32) :
    tripR_k0_t2 (F := F) Variants.none c bd arg0 harg0 arg1 harg1 arg2 harg2 cen (harg0.unread p) k acc = addK p cen k.val acc := by
  unfold tripR_k0_t2 trip_k0_t2 addK
  rw [dif_pos k.isLt]
  dsimp only
  simp only [View.readAt_eq_ld, harg0.read_unread]
  rfl

theorem st2 (cen : FVec F S512x6 .f32) (p : Vec F S32768x6 .f32) : ∀ n : ℕ, n ≤ k0_t2_loop.trips →
    st_k0_t2 (F := F) Variants.none c bd arg0 harg0 arg1 harg1 arg2 harg2 cen (harg0.unread p) (k0_pay8, k0_pay9) n = accK p cen n
  | 0, _ => rfl
  | n + 1, h => by
    have hs := st_k0_t2_succ (F := F) Variants.none c bd arg0 harg0 arg1 harg1 arg2 harg2 cen (harg0.unread p) (k0_pay8, k0_pay9) ⟨n, h⟩
    rw [trip2, st2 cen p n (Nat.le_of_succ_le h)] at hs
    exact hs

theorem trip1 (p : Vec F S32768x6 .f32) (k : Fin k0_t1_loop.trips) (cen : FVec F S512x6 .f32) :
    tripR_k0_t1 (F := F) Variants.none c bd arg0 harg0 arg1 harg1 arg2 harg2 (harg0.unread p) k cen = stepK p cen := by
  unfold tripR_k0_t1 trip_k0_t1 stepK
  dsimp only
  have h16 : Scf.trips (0#32) (Scalar.addi 0#32 16#32) 1#32 = 16 := by decide
  rw [h16, st2 c bd arg0 harg0 arg1 harg1 arg2 harg2 cen p 16 (by decide)]

theorem st1 (c0 : FVec F S512x6 .f32) (p : Vec F S32768x6 .f32) : ∀ n : ℕ, n ≤ k0_t1_loop.trips →
    st_k0_t1 (F := F) Variants.none c bd arg0 harg0 arg1 harg1 arg2 harg2 (harg0.unread p) c0 n = (stepK p)^[n] c0
  | 0, _ => rfl
  | n + 1, h => by
    have hs := st_k0_t1_succ (F := F) Variants.none c bd arg0 harg0 arg1 harg1 arg2 harg2 (harg0.unread p) c0 ⟨n, h⟩
    rw [trip1, st1 c0 p n (Nat.le_of_succ_le h)] at hs
    rw [Function.iterate_succ_apply']
    exact hs

/-- What the body leaves in the output's buffer. -/
theorem out_eq (x0 : Vec F S32768x6 .f32) (x1 : Vec F S512x6 .f32) :
    out0_A_2 c arg0 harg0 arg1 harg1 arg2 harg2 x0 x1 = outK x0 x1 := by
  unfold out0_A_2
  rw [View.read_writes_eq_canon _ _ _ (cover0_A_2 c arg0 harg0 arg1 harg1 arg2 harg2 x0 x1)]
  unfold kernelRun0_A
  dsimp only
  rw [View.canon_unit_zero hz]
  sl_unfold_words
  have h7 : Scf.trips k0_t1_loop.lb k0_t1_loop.ub k0_t1_loop.st = 7 := by decide
  have hc : k0_pay7 (View.readAt (Elt F) arg1.view (Rect.unit ![0, 0] S512x6.size inb_S512x6_S512x6_0_0).toLoadRect (harg1.unread x1)) = x1 := by
    unfold k0_pay7
    simp only [View.readAt_eq_ld, harg1.read_unread, View.ld_unit_zero (S := S512x6) hz, shapeCast_self]
  rw [hc, h7, st1 c none arg0 harg0 arg1 harg1 arg2 harg2 x1 x0 7 (by decide), Scf.fold_eq]
  rfl

end Loops

/-! ## The run -/

variable (m : (ℓ : Loc nD τ sig) → Buf (Elt F) ℓ) (ρ : Dev nD → PrngReg)

/-- The first input's one block is the whole array. -/
theorem iblk0 (c : Dev nD) : iblk m c 0 t0_0 = (V m c main_call0_v1 : Vec F S32768x6 .f32) := by
  have hz' : (fun a => win0_0.index t0_0 a * main_call0_v1.ty.shape.size a) = fun _ => 0 := funext fun a => by fin_cases a <;> decide
  exact Memref.read_access_unit_zero (Elt F) main_call0_v1 hz' (fun a => by rw [congrFun hz' a]; simp) (V m c main_call0_v1)

theorem iblk1 (c : Dev nD) : iblk m c 1 t0_0 = (V m c main_call0_v2 : Vec F S512x6 .f32) := by
  have hz' : (fun a => win0_1.index t0_0 a * main_call0_v2.ty.shape.size a) = fun _ => 0 := funext fun a => by fin_cases a <;> decide
  exact Memref.read_access_unit_zero (Elt F) main_call0_v2 hz' (fun a => by rw [congrFun hz' a]; simp) (V m c main_call0_v2)

/-- The result, as contents of the result array. -/
abbrev result (c : Dev nD) : Buf (Elt F) ((c : Thread nD τ).loc main_v0) :=
  outK (V m c main_call0_v1 : Vec F S32768x6 .f32) (V m c main_call0_v2 : Vec F S512x6 .f32)

theorem flushed_eq (c : Dev nD) (t : Fin cfg0.N) (hf : (cfg0.win 2).flush t = true) :
    (dats m 0 c).flushed 2 t = ((cfg0.win 2).blk t).view.read (Elt F) (result m c) := by
  obtain rfl : t = t0_0 := fin_N0 t
  rw [flushed2_A, out_eq, iblk0, iblk1]
  have hz' : (fun a => win0_2.index t0_0 a * main_v0.ty.shape.size a) = fun _ => 0 := funext fun a => by fin_cases a <;> decide
  exact (Memref.read_access_unit_zero (Elt F) main_v0 hz' (fun a => by rw [congrFun hz' a]; simp) (result m c)).symm

theorem final_o (c : Dev nD) : (dats m 0 c).arrAt 2 cfg0.N = result m c :=
  (dats m 0 c).arrAt_eq_of_cover 2 (result m c) (flushed_eq m c) fun i =>
    ⟨t0_0, flush0_2 t0_0, by
      show i ∈ ((View.whole main_v0).slice (win0_2.rect t0_0)).set
      rw [View.set_slice_whole, Rect.mem_set_unit]
      intro a
      have h0 : (i 0 : Nat) < 512 := (i 0).isLt
      have h1 : (i 1 : Nat) < 4 := (i 1).isLt
      match a with
      | ⟨0, _⟩ => show win0_2.index t0_0 0 * win0_2.size 0 ≤ (i 0 : Nat) ∧ (i 0 : Nat) < win0_2.index t0_0 0 * win0_2.size 0 + win0_2.xsize (grid0.coords t0_0) 0
                  rw [show win0_2.index t0_0 0 * win0_2.size 0 = 0 from by decide +kernel, show win0_2.xsize (grid0.coords t0_0) 0 = 512 from by decide +kernel]; omega
      | ⟨1, _⟩ => show win0_2.index t0_0 1 * win0_2.size 1 ≤ (i 1 : Nat) ∧ (i 1 : Nat) < win0_2.index t0_0 1 * win0_2.size 1 + win0_2.xsize (grid0.coords t0_0) 1
                  rw [show win0_2.index t0_0 1 * win0_2.size 1 = 0 from by decide +kernel, show win0_2.xsize (grid0.coords t0_0) 1 = 4 from by decide +kernel]; omega⟩

/-- The points of the input. -/
def ptsK (x : FVec F S2x6x16384 .f32) : FVec F S32768x6 .f32 :=
  shapeCast S32768x6 (transpose S2x16384x6 [0, 2, 1] x transposes_S2x6x16384_S2x16384x6_0_2_1) shapeCasts_S2x16384x6_S32768x6

/-- The first centres. -/
def cent0K (p : FVec F S32768x6 .f32) : FVec F S512x6 .f32 := extractStridedSlice S512x6 ![0, 0] p slices_S32768x6_S512x6_0_0

theorem V_pts (c : Dev nD) : (V m c main_call0_v1 : Vec F S32768x6 .f32) = ptsK (m ((c : Thread nD τ).loc main_arg0)) := by
  unfold V ptsK
  simp only [hostOps0, List.flatten_cons, List.flatten_nil, List.append_nil, List.cons_append, List.nil_append]
  after_results
  rfl

theorem V_cent0 (c : Dev nD) : (V m c main_call0_v2 : Vec F S512x6 .f32) = cent0K (ptsK (m ((c : Thread nD τ).loc main_arg0))) := by
  unfold V ptsK cent0K
  simp only [hostOps0, List.flatten_cons, List.flatten_nil, List.append_nil, List.cons_append, List.nil_append]
  after_results
  rfl

/-- The run: the result array is a function of the input array, the argument unchanged. -/
theorem run_out : θ_run defs (onTc (τ := τ) (main (F := F))) ⟨m, fun _ => 0, ρ⟩ fun r => ∀ c : Dev nD,
      r.2.mem ((c : Thread nD τ).loc main_v0) = outK (ptsK (m ((c : Thread nD τ).loc main_arg0))) (cent0K (ptsK (m ((c : Thread nD τ).loc main_arg0))))
      ∧ r.2.mem ((c : Thread nD τ).loc main_arg0) = m ((c : Thread nD τ).loc main_arg0) :=
  (θ_run defs _ _).mono (fun r h c => ⟨by rw [(h c).1, final_o, result, V_cent0, V_pts], (h c).2⟩) (run_blocks m ρ)

end Cert.KernelIdeal.Value

end
-- ==== Proof.RefOps.lean ====
/- The reference program as lists of host operations, its run, and what the run leaves: @main is seven operations, one
   counted loop of six trips, and the operations after it. `run_fold` says that every weakly fair execution ends with
   every buffer at the fold of those lists from the launch's memory. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

-- a long stretch's `::` list and the decided enumerations over the program's references recurse past the default depth
set_option maxRecDepth 1368

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

/-- 7 host operations of @main, in order. -/
abbrev hostOps0 : List (HloOp τ sig (Elt F)) :=
  [ StableHlo.unary main_arg0 main_v0 ((transpose S2x16384x6 [0, 2, 1] · transposes_S2x6x16384_S2x16384x6_0_2_1) : (⟨S2x6x16384, .f32⟩ : BufTy).Contents (Elt F) → (⟨S2x16384x6, .f32⟩ : BufTy).Contents (Elt F)),
    StableHlo.reshape main_v0 main_v1 (rfl : (.f32 : EltTy) = .f32) shapeCasts_S2x16384x6_S32768x6,
    StableHlo.unary main_v1 main_v2 ((extractStridedSlice S512x6 ![0, 0] · slices_S32768x6_S512x6_0_0) : (⟨S32768x6, .f32⟩ : BufTy).Contents (Elt F) → (⟨S512x6, .f32⟩ : BufTy).Contents (Elt F)),
    StableHlo.nullary main_c (constantI S_ 32 0#32),
    StableHlo.unary main_v1 main_v3_0 id,
    StableHlo.unary main_c main_v3_1 id,
    StableHlo.unary main_v2 main_v3_2 id ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.unary_bufs_sub .., StableHlo.reshape_bufs_sub .., StableHlo.unary_bufs_sub .., StableHlo.nullary_bufs_sub .., StableHlo.unary_bufs_sub .., StableHlo.unary_bufs_sub .., StableHlo.unary_bufs_sub ..⟩
/-- 17 host operations of @main, in order. -/
abbrev hostOps0_1 : List (HloOp τ sig (Elt F)) :=
  [ StableHlo.binary main_v1 main_v1 main_v4 (mulf : (⟨S32768x6, .f32⟩ : BufTy).Contents (Elt F) → (⟨S32768x6, .f32⟩ : BufTy).Contents (Elt F) → (⟨S32768x6, .f32⟩ : BufTy).Contents (Elt F)),
    StableHlo.nullary main_cst (constant S_ .f32 0x00000000#32),
    StableHlo.binary main_v4 main_cst main_v5 ((fun x v => Host.reduceAdd x v reducesTo_S32768x6_S32768_d1 h_S_) : (⟨S32768x6, .f32⟩ : BufTy).Contents (Elt F) → (⟨S_, .f32⟩ : BufTy).Contents (Elt F) → (⟨S32768, .f32⟩ : BufTy).Contents (Elt F)),
    StableHlo.unary main_v5 main_v6 (broadcastInDim S32768x1 ![0] bcast_S32768_S32768x1_0 : (⟨S32768, .f32⟩ : BufTy).Contents (Elt F) → (⟨S32768x1, .f32⟩ : BufTy).Contents (Elt F)),
    StableHlo.unary main_v3_2 main_v7 ((transpose S6x512 [1, 0] · transposes_S512x6_S6x512_1_0) : (⟨S512x6, .f32⟩ : BufTy).Contents (Elt F) → (⟨S6x512, .f32⟩ : BufTy).Contents (Elt F)),
    StableHlo.binary main_v1 main_v7 main_v8 ((fun l r => Host.dotGeneral dot_S32768x6_S6x512_S32768x512_1_0_0_1_n_n none l r) : (⟨S32768x6, .f32⟩ : BufTy).Contents (Elt F) → (⟨S6x512, .f32⟩ : BufTy).Contents (Elt F) → (⟨S32768x512, .f32⟩ : BufTy).Contents (Elt F)),
    StableHlo.nullary main_cst_0 (constant S_ .f32 0x40000000#32),
    StableHlo.unary main_cst_0 main_v9 (broadcastInDim S32768x512 ![] bcast_S_S32768x512 : (⟨S_, .f32⟩ : BufTy).Contents (Elt F) → (⟨S32768x512, .f32⟩ : BufTy).Contents (Elt F)),
    StableHlo.binary main_v9 main_v8 main_v10 (mulf : (⟨S32768x512, .f32⟩ : BufTy).Contents (Elt F) → (⟨S32768x512, .f32⟩ : BufTy).Contents (Elt F) → (⟨S32768x512, .f32⟩ : BufTy).Contents (Elt F)),
    StableHlo.unary main_v6 main_v11 (broadcastInDim S32768x512 ![0, 1] bcast_S32768x1_S32768x512_0_1 : (⟨S32768x1, .f32⟩ : BufTy).Contents (Elt F) → (⟨S32768x512, .f32⟩ : BufTy).Contents (Elt F)),
    StableHlo.binary main_v11 main_v10 main_v12 (subf : (⟨S32768x512, .f32⟩ : BufTy).Contents (Elt F) → (⟨S32768x512, .f32⟩ : BufTy).Contents (Elt F) → (⟨S32768x512, .f32⟩ : BufTy).Contents (Elt F)),
    StableHlo.binary main_v3_2 main_v3_2 main_v13 (mulf : (⟨S512x6, .f32⟩ : BufTy).Contents (Elt F) → (⟨S512x6, .f32⟩ : BufTy).Contents (Elt F) → (⟨S512x6, .f32⟩ : BufTy).Contents (Elt F)),
    StableHlo.nullary main_cst_1 (constant S_ .f32 0x00000000#32),
    StableHlo.binary main_v13 main_cst_1 main_v14 ((fun x v => Host.reduceAdd x v reducesTo_S512x6_S512_d1 h_S_) : (⟨S512x6, .f32⟩ : BufTy).Contents (Elt F) → (⟨S_, .f32⟩ : BufTy).Contents (Elt F) → (⟨S512, .f32⟩ : BufTy).Contents (Elt F)),
    StableHlo.unary main_v14 main_v15 (broadcastInDim S1x512 ![1] bcast_S512_S1x512_1 : (⟨S512, .f32⟩ : BufTy).Contents (Elt F) → (⟨S1x512, .f32⟩ : BufTy).Contents (Elt F)),
    StableHlo.unary main_v15 main_v16 (broadcastInDim S32768x512 ![0, 1] bcast_S1x512_S32768x512_0_1 : (⟨S1x512, .f32⟩ : BufTy).Contents (Elt F) → (⟨S32768x512, .f32⟩ : BufTy).Contents (Elt F)),
    StableHlo.binary main_v12 main_v16 main_v17 (addf : (⟨S32768x512, .f32⟩ : BufTy).Contents (Elt F) → (⟨S32768x512, .f32⟩ : BufTy).Contents (Elt F) → (⟨S32768x512, .f32⟩ : BufTy).Contents (Elt F)) ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub ..⟩
/-- 5 host operations of @argmin (main_call2), in order. -/
abbrev hostOps0_2 : List (HloOp τ sig (Elt F)) :=
  [ StableHlo.TRef.nullary (.of main_call2_v0 : StableHlo.TRef sig ⟨S32768x512, .i32⟩) (iotaInDim S32768x512 32 1),
    StableHlo.TRef.nullary (.of main_call2_cst : StableHlo.TRef sig ⟨S_, .f32⟩) (constant S_ .f32 0x7F800000#32),
    StableHlo.TRef.nullary (.of main_call2_c : StableHlo.TRef sig ⟨S_, .i32⟩) (constantI S_ 32 0#32),
    StableHlo.TRef.quaternary (.of main_v17 : StableHlo.TRef sig ⟨S32768x512, .f32⟩) (.of main_call2_v0 : StableHlo.TRef sig ⟨S32768x512, .i32⟩) (.of main_call2_cst : StableHlo.TRef sig ⟨S_, .f32⟩) (.of main_call2_c : StableHlo.TRef sig ⟨S_, .i32⟩) (.of main_call2_v1_0 : StableHlo.TRef sig ⟨S32768, .f32⟩) (fun x y u v j => (Host.argReduce reducer_argmin_f32_i32 x y u v reducesTo_S32768x512_S32768_d1 h_S_ j).1),
    StableHlo.TRef.quaternary (.of main_v17 : StableHlo.TRef sig ⟨S32768x512, .f32⟩) (.of main_call2_v0 : StableHlo.TRef sig ⟨S32768x512, .i32⟩) (.of main_call2_cst : StableHlo.TRef sig ⟨S_, .f32⟩) (.of main_call2_c : StableHlo.TRef sig ⟨S_, .i32⟩) (.of main_v18 : StableHlo.TRef sig ⟨S32768, .i32⟩) (fun x y u v j => (Host.argReduce reducer_argmin_f32_i32 x y u v reducesTo_S32768x512_S32768_d1 h_S_ j).2) ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 34 host operations of @main, in order. -/
abbrev hostOps0_3 : List (HloOp τ sig (Elt F)) :=
  ( StableHlo.nullary main_cst_2 (constant S_ .f32 0x00000000#32)
  :: StableHlo.unary main_cst_2 main_v19 (broadcastInDim S512x6 ![] bcast_S_S512x6 : (⟨S_, .f32⟩ : BufTy).Contents (Elt F) → (⟨S512x6, .f32⟩ : BufTy).Contents (Elt F))
  :: StableHlo.nullary main_c_3 (constantI S_ 32 0#32)
  :: StableHlo.unary main_c_3 main_v20 (broadcastInDim S32768 ![] bcast_S_S32768 : (⟨S_, .i32⟩ : BufTy).Contents (Elt F) → (⟨S32768, .i32⟩ : BufTy).Contents (Elt F))
  :: StableHlo.binary main_v18 main_v20 main_v21 (cmpi .slt : (⟨S32768, .i32⟩ : BufTy).Contents (Elt F) → (⟨S32768, .i32⟩ : BufTy).Contents (Elt F) → (⟨S32768, .i1⟩ : BufTy).Contents (Elt F))
  :: StableHlo.nullary main_c_4 (constantI S_ 32 512#32)
  :: StableHlo.unary main_c_4 main_v22 (broadcastInDim S32768 ![] bcast_S_S32768 : (⟨S_, .i32⟩ : BufTy).Contents (Elt F) → (⟨S32768, .i32⟩ : BufTy).Contents (Elt F))
  :: StableHlo.binary main_v18 main_v22 main_v23 (addi : (⟨S32768, .i32⟩ : BufTy).Contents (Elt F) → (⟨S32768, .i32⟩ : BufTy).Contents (Elt F) → (⟨S32768, .i32⟩ : BufTy).Contents (Elt F))
  :: StableHlo.ternary main_v21 main_v23 main_v18 main_v24 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v24 main_v25 (broadcastInDim S32768x1 ![0] bcast_S32768_S32768x1_0 : (⟨S32768, .i32⟩ : BufTy).Contents (Elt F) → (⟨S32768x1, .i32⟩ : BufTy).Contents (Elt F))
  :: StableHlo.ternary main_v19 main_v25 main_v1 main_v26 ((fun x i u => Host.scatterAdd scatter_S512x6_S32768x1_S32768x6_1_0_0_1 x i u) : (⟨S512x6, .f32⟩ : BufTy).Contents (Elt F) → (⟨S32768x1, .i32⟩ : BufTy).Contents (Elt F) → (⟨S32768x6, .f32⟩ : BufTy).Contents (Elt F) → (⟨S512x6, .f32⟩ : BufTy).Contents (Elt F))
  :: StableHlo.nullary main_cst_5 (constant S_ .f32 0x00000000#32)
  :: StableHlo.unary main_cst_5 main_v27 (broadcastInDim S512 ![] bcast_S_S512 : (⟨S_, .f32⟩ : BufTy).Contents (Elt F) → (⟨S512, .f32⟩ : BufTy).Contents (Elt F))
  :: StableHlo.nullary main_c_6 (constantI S_ 32 0#32)
  :: StableHlo.unary main_c_6 main_v28 (broadcastInDim S32768 ![] bcast_S_S32768 : (⟨S_, .i32⟩ : BufTy).Contents (Elt F) → (⟨S32768, .i32⟩ : BufTy).Contents (Elt F))
  :: StableHlo.binary main_v18 main_v28 main_v29 (cmpi .slt : (⟨S32768, .i32⟩ : BufTy).Contents (Elt F) → (⟨S32768, .i32⟩ : BufTy).Contents (Elt F) → (⟨S32768, .i1⟩ : BufTy).Contents (Elt F))
  :: StableHlo.nullary main_c_7 (constantI S_ 32 512#32)
  :: StableHlo.unary main_c_7 main_v30 (broadcastInDim S32768 ![] bcast_S_S32768 : (⟨S_, .i32⟩ : BufTy).Contents (Elt F) → (⟨S32768, .i32⟩ : BufTy).Contents (Elt F))
  :: StableHlo.binary main_v18 main_v30 main_v31 (addi : (⟨S32768, .i32⟩ : BufTy).Contents (Elt F) → (⟨S32768, .i32⟩ : BufTy).Contents (Elt F) → (⟨S32768, .i32⟩ : BufTy).Contents (Elt F))
  :: StableHlo.ternary main_v29 main_v31 main_v18 main_v32 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v32 main_v33 (broadcastInDim S32768x1 ![0] bcast_S32768_S32768x1_0 : (⟨S32768, .i32⟩ : BufTy).Contents (Elt F) → (⟨S32768x1, .i32⟩ : BufTy).Contents (Elt F))
  :: StableHlo.nullary main_cst_8 (constant S_ .f32 0x3F800000#32)
  :: StableHlo.unary main_cst_8 main_v34 (broadcastInDim S32768 ![] bcast_S_S32768 : (⟨S_, .f32⟩ : BufTy).Contents (Elt F) → (⟨S32768, .f32⟩ : BufTy).Contents (Elt F))
  :: StableHlo.ternary main_v27 main_v33 main_v34 main_v35 ((fun x i u => Host.scatterAdd scatter_S512_S32768x1_S32768_n_0_0_1 x i u) : (⟨S512, .f32⟩ : BufTy).Contents (Elt F) → (⟨S32768x1, .i32⟩ : BufTy).Contents (Elt F) → (⟨S32768, .f32⟩ : BufTy).Contents (Elt F) → (⟨S512, .f32⟩ : BufTy).Contents (Elt F))
  :: StableHlo.nullary main_cst_9 (constant S_ .f32 0x3F800000#32)
  :: StableHlo.unary main_cst_9 main_v36 (broadcastInDim S512 ![] bcast_S_S512 : (⟨S_, .f32⟩ : BufTy).Contents (Elt F) → (⟨S512, .f32⟩ : BufTy).Contents (Elt F))
  :: StableHlo.binary main_v35 main_v36 main_v37 (maximumf : (⟨S512, .f32⟩ : BufTy).Contents (Elt F) → (⟨S512, .f32⟩ : BufTy).Contents (Elt F) → (⟨S512, .f32⟩ : BufTy).Contents (Elt F))
  :: StableHlo.unary main_v37 main_v38 (broadcastInDim S512x1 ![0] bcast_S512_S512x1_0 : (⟨S512, .f32⟩ : BufTy).Contents (Elt F) → (⟨S512x1, .f32⟩ : BufTy).Contents (Elt F))
  :: StableHlo.unary main_v38 main_v39 (broadcastInDim S512x6 ![0, 1] bcast_S512x1_S512x6_0_1 : (⟨S512x1, .f32⟩ : BufTy).Contents (Elt F) → (⟨S512x6, .f32⟩ : BufTy).Contents (Elt F))
  :: StableHlo.binary main_v26 main_v39 main_v40 (Host.divf : (⟨S512x6, .f32⟩ : BufTy).Contents (Elt F) → (⟨S512x6, .f32⟩ : BufTy).Contents (Elt F) → (⟨S512x6, .f32⟩ : BufTy).Contents (Elt F))
  :: StableHlo.unary main_v35 main_v41 (broadcastInDim S512x1 ![0] bcast_S512_S512x1_0 : (⟨S512, .f32⟩ : BufTy).Contents (Elt F) → (⟨S512x1, .f32⟩ : BufTy).Contents (Elt F))
  :: StableHlo.nullary main_cst_10 (constant S_ .f32 0x00000000#32)
  :: StableHlo.unary main_cst_10 main_v42 (broadcastInDim S512x1 ![] bcast_S_S512x1 : (⟨S_, .f32⟩ : BufTy).Contents (Elt F) → (⟨S512x1, .f32⟩ : BufTy).Contents (Elt F))
  :: StableHlo.binary main_v41 main_v42 main_v43 (cmpf .ogt : (⟨S512x1, .f32⟩ : BufTy).Contents (Elt F) → (⟨S512x1, .f32⟩ : BufTy).Contents (Elt F) → (⟨S512x1, .i1⟩ : BufTy).Contents (Elt F))
  :: [] )
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub ..⟩
/-- 2 host operations of @_where (main_call3), in order. -/
abbrev hostOps0_4 : List (HloOp τ sig (Elt F)) :=
  [ StableHlo.TRef.unary (.of main_v43 : StableHlo.TRef sig ⟨S512x1, .i1⟩) (.of main_call3_v0 : StableHlo.TRef sig ⟨S512x6, .i1⟩) (broadcastInDim S512x6 ![0, 1] bcast_S512x1_S512x6_0_1),
    StableHlo.TRef.ternary (.of main_call3_v0 : StableHlo.TRef sig ⟨S512x6, .i1⟩) (.of main_v40 : StableHlo.TRef sig ⟨S512x6, .f32⟩) (.of main_v3_2 : StableHlo.TRef sig ⟨S512x6, .f32⟩) (.of main_v44 : StableHlo.TRef sig ⟨S512x6, .f32⟩) select ]
/-- Each touches TensorCore references only (`HostSeg.ofOps` over `StableHlo.tcRefs`, or a subset by `sub_ucRefs`). -/
theorem hostOps0_4_sub : (hostOps0_4 : List (HloOp τ sig (Elt F))).Forall fun op => op.bufs ⊆ StableHlo.tcRefs τ sig :=
  ⟨StableHlo.unary_bufs_sub .., StableHlo.ternary_bufs_sub ..⟩
/-- 52 host operations of @main, in order. -/
abbrev hostOps0_5 : List (HloOp τ sig (Elt F)) :=
  ( StableHlo.binary main_v44 main_v44 main_v45 (mulf : (⟨S512x6, .f32⟩ : BufTy).Contents (Elt F) → (⟨S512x6, .f32⟩ : BufTy).Contents (Elt F) → (⟨S512x6, .f32⟩ : BufTy).Contents (Elt F))
  :: StableHlo.nullary main_cst_11 (constant S_ .f32 0x00000000#32)
  :: StableHlo.binary main_v45 main_cst_11 main_v46 ((fun x v => Host.reduceAdd x v reducesTo_S512x6_S512_d1 h_S_) : (⟨S512x6, .f32⟩ : BufTy).Contents (Elt F) → (⟨S_, .f32⟩ : BufTy).Contents (Elt F) → (⟨S512, .f32⟩ : BufTy).Contents (Elt F))
  :: StableHlo.unary main_v46 main_v47 (broadcastInDim S512x1 ![0] bcast_S512_S512x1_0 : (⟨S512, .f32⟩ : BufTy).Contents (Elt F) → (⟨S512x1, .f32⟩ : BufTy).Contents (Elt F))
  :: StableHlo.unary main_v44 main_v48 ((transpose S6x512 [1, 0] · transposes_S512x6_S6x512_1_0) : (⟨S512x6, .f32⟩ : BufTy).Contents (Elt F) → (⟨S6x512, .f32⟩ : BufTy).Contents (Elt F))
  :: StableHlo.binary main_v44 main_v48 main_v49 ((fun l r => Host.dotGeneral dot_S512x6_S6x512_S512x512_1_0_0_1_n_n none l r) : (⟨S512x6, .f32⟩ : BufTy).Contents (Elt F) → (⟨S6x512, .f32⟩ : BufTy).Contents (Elt F) → (⟨S512x512, .f32⟩ : BufTy).Contents (Elt F))
  :: StableHlo.nullary main_cst_12 (constant S_ .f32 0x40000000#32)
  :: StableHlo.unary main_cst_12 main_v50 (broadcastInDim S512x512 ![] bcast_S_S512x512 : (⟨S_, .f32⟩ : BufTy).Contents (Elt F) → (⟨S512x512, .f32⟩ : BufTy).Contents (Elt F))
  :: StableHlo.binary main_v50 main_v49 main_v51 (mulf : (⟨S512x512, .f32⟩ : BufTy).Contents (Elt F) → (⟨S512x512, .f32⟩ : BufTy).Contents (Elt F) → (⟨S512x512, .f32⟩ : BufTy).Contents (Elt F))
  :: StableHlo.unary main_v47 main_v52 (broadcastInDim S512x512 ![0, 1] bcast_S512x1_S512x512_0_1 : (⟨S512x1, .f32⟩ : BufTy).Contents (Elt F) → (⟨S512x512, .f32⟩ : BufTy).Contents (Elt F))
  :: StableHlo.binary main_v52 main_v51 main_v53 (subf : (⟨S512x512, .f32⟩ : BufTy).Contents (Elt F) → (⟨S512x512, .f32⟩ : BufTy).Contents (Elt F) → (⟨S512x512, .f32⟩ : BufTy).Contents (Elt F))
  :: StableHlo.binary main_v44 main_v44 main_v54 (mulf : (⟨S512x6, .f32⟩ : BufTy).Contents (Elt F) → (⟨S512x6, .f32⟩ : BufTy).Contents (Elt F) → (⟨S512x6, .f32⟩ : BufTy).Contents (Elt F))
  :: StableHlo.nullary main_cst_13 (constant S_ .f32 0x00000000#32)
  :: StableHlo.binary main_v54 main_cst_13 main_v55 ((fun x v => Host.reduceAdd x v reducesTo_S512x6_S512_d1 h_S_) : (⟨S512x6, .f32⟩ : BufTy).Contents (Elt F) → (⟨S_, .f32⟩ : BufTy).Contents (Elt F) → (⟨S512, .f32⟩ : BufTy).Contents (Elt F))
  :: StableHlo.unary main_v55 main_v56 (broadcastInDim S1x512 ![1] bcast_S512_S1x512_1 : (⟨S512, .f32⟩ : BufTy).Contents (Elt F) → (⟨S1x512, .f32⟩ : BufTy).Contents (Elt F))
  :: StableHlo.unary main_v56 main_v57 (broadcastInDim S512x512 ![0, 1] bcast_S1x512_S512x512_0_1 : (⟨S1x512, .f32⟩ : BufTy).Contents (Elt F) → (⟨S512x512, .f32⟩ : BufTy).Contents (Elt F))
  :: StableHlo.binary main_v53 main_v57 main_v58 (addf : (⟨S512x512, .f32⟩ : BufTy).Contents (Elt F) → (⟨S512x512, .f32⟩ : BufTy).Contents (Elt F) → (⟨S512x512, .f32⟩ : BufTy).Contents (Elt F))
  :: StableHlo.unary main_v58 main_v59 (Host.negf : (⟨S512x512, .f32⟩ : BufTy).Contents (Elt F) → (⟨S512x512, .f32⟩ : BufTy).Contents (Elt F))
  :: StableHlo.unary main_v59 main_values ((fun x => (Host.topK S512x16 1 (FloatOps.cmpfTotal .gt) x sliceFits_S512x512_S512x16).1) : (⟨S512x512, .f32⟩ : BufTy).Contents (Elt F) → (⟨S512x16, .f32⟩ : BufTy).Contents (Elt F))
  :: StableHlo.unary main_v59 main_indices ((fun x => (Host.topK S512x16 1 (FloatOps.cmpfTotal .gt) x sliceFits_S512x512_S512x16).2) : (⟨S512x512, .f32⟩ : BufTy).Contents (Elt F) → (⟨S512x16, .i32⟩ : BufTy).Contents (Elt F))
  :: StableHlo.reshape main_indices main_v60 (rfl : (.i32 : EltTy) = .i32) shapeCasts_S512x16_S8192
  :: StableHlo.nullary main_v61 (iotaInDim S512 32 0)
  :: StableHlo.unary main_v61 main_v62 (broadcastInDim S512x16 ![0] bcast_S512_S512x16_0 : (⟨S512, .i32⟩ : BufTy).Contents (Elt F) → (⟨S512x16, .i32⟩ : BufTy).Contents (Elt F))
  :: StableHlo.reshape main_v62 main_v63 (rfl : (.i32 : EltTy) = .i32) shapeCasts_S512x16_S8192
  :: StableHlo.nullary main_cst_14 (constant S_ .f32 0x00000000#32)
  :: StableHlo.unary main_cst_14 main_v64 (broadcastInDim S512x512 ![] bcast_S_S512x512 : (⟨S_, .f32⟩ : BufTy).Contents (Elt F) → (⟨S512x512, .f32⟩ : BufTy).Contents (Elt F))
  :: StableHlo.nullary main_c_15 (constantI S_ 32 0#32)
  :: StableHlo.unary main_c_15 main_v65 (broadcastInDim S8192 ![] bcast_S_S8192 : (⟨S_, .i32⟩ : BufTy).Contents (Elt F) → (⟨S8192, .i32⟩ : BufTy).Contents (Elt F))
  :: StableHlo.binary main_v60 main_v65 main_v66 (cmpi .slt : (⟨S8192, .i32⟩ : BufTy).Contents (Elt F) → (⟨S8192, .i32⟩ : BufTy).Contents (Elt F) → (⟨S8192, .i1⟩ : BufTy).Contents (Elt F))
  :: StableHlo.nullary main_c_16 (constantI S_ 32 512#32)
  :: StableHlo.unary main_c_16 main_v67 (broadcastInDim S8192 ![] bcast_S_S8192 : (⟨S_, .i32⟩ : BufTy).Contents (Elt F) → (⟨S8192, .i32⟩ : BufTy).Contents (Elt F))
  :: StableHlo.binary main_v60 main_v67 main_v68 (addi : (⟨S8192, .i32⟩ : BufTy).Contents (Elt F) → (⟨S8192, .i32⟩ : BufTy).Contents (Elt F) → (⟨S8192, .i32⟩ : BufTy).Contents (Elt F))
  :: StableHlo.ternary main_v66 main_v68 main_v60 main_v69 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.nullary main_c_17 (constantI S_ 32 0#32)
  :: StableHlo.unary main_c_17 main_v70 (broadcastInDim S8192 ![] bcast_S_S8192 : (⟨S_, .i32⟩ : BufTy).Contents (Elt F) → (⟨S8192, .i32⟩ : BufTy).Contents (Elt F))
  :: StableHlo.binary main_v63 main_v70 main_v71 (cmpi .slt : (⟨S8192, .i32⟩ : BufTy).Contents (Elt F) → (⟨S8192, .i32⟩ : BufTy).Contents (Elt F) → (⟨S8192, .i1⟩ : BufTy).Contents (Elt F))
  :: StableHlo.nullary main_c_18 (constantI S_ 32 512#32)
  :: StableHlo.unary main_c_18 main_v72 (broadcastInDim S8192 ![] bcast_S_S8192 : (⟨S_, .i32⟩ : BufTy).Contents (Elt F) → (⟨S8192, .i32⟩ : BufTy).Contents (Elt F))
  :: StableHlo.binary main_v63 main_v72 main_v73 (addi : (⟨S8192, .i32⟩ : BufTy).Contents (Elt F) → (⟨S8192, .i32⟩ : BufTy).Contents (Elt F) → (⟨S8192, .i32⟩ : BufTy).Contents (Elt F))
  :: StableHlo.ternary main_v71 main_v73 main_v63 main_v74 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.unary main_v69 main_v75 (broadcastInDim S8192x1 ![0] bcast_S8192_S8192x1_0 : (⟨S8192, .i32⟩ : BufTy).Contents (Elt F) → (⟨S8192x1, .i32⟩ : BufTy).Contents (Elt F))
  :: StableHlo.unary main_v74 main_v76 (broadcastInDim S8192x1 ![0] bcast_S8192_S8192x1_0 : (⟨S8192, .i32⟩ : BufTy).Contents (Elt F) → (⟨S8192x1, .i32⟩ : BufTy).Contents (Elt F))
  :: StableHlo.binary main_v75 main_v76 main_v77 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F))
  :: StableHlo.nullary main_cst_19 (constant S_ .f32 0x3F800000#32)
  :: StableHlo.unary main_cst_19 main_v78 (broadcastInDim S8192 ![] bcast_S_S8192 : (⟨S_, .f32⟩ : BufTy).Contents (Elt F) → (⟨S8192, .f32⟩ : BufTy).Contents (Elt F))
  :: StableHlo.ternary main_v64 main_v77 main_v78 main_v79 ((fun x i u => Host.scatter scatter_S512x512_S8192x2_S8192_n_01_01_1 (fun _ b => b) x i u) : (⟨S512x512, .f32⟩ : BufTy).Contents (Elt F) → (⟨S8192x2, .i32⟩ : BufTy).Contents (Elt F) → (⟨S8192, .f32⟩ : BufTy).Contents (Elt F) → (⟨S512x512, .f32⟩ : BufTy).Contents (Elt F))
  :: StableHlo.nullary main_cst_20 (constant S_ .f32 0x00000000#32)
  :: StableHlo.binary main_v79 main_cst_20 main_v80 ((fun x v => Host.reduceAdd x v reducesTo_S512x512_S512_d1 h_S_) : (⟨S512x512, .f32⟩ : BufTy).Contents (Elt F) → (⟨S_, .f32⟩ : BufTy).Contents (Elt F) → (⟨S512, .f32⟩ : BufTy).Contents (Elt F))
  :: StableHlo.nullary main_cst_21 (constant S_ .f32 0x00000000#32)
  :: StableHlo.unary main_cst_21 main_v81 (broadcastInDim S512 ![] bcast_S_S512 : (⟨S_, .f32⟩ : BufTy).Contents (Elt F) → (⟨S512, .f32⟩ : BufTy).Contents (Elt F))
  :: StableHlo.binary main_v80 main_v81 main_v82 (cmpf .oeq : (⟨S512, .f32⟩ : BufTy).Contents (Elt F) → (⟨S512, .f32⟩ : BufTy).Contents (Elt F) → (⟨S512, .i1⟩ : BufTy).Contents (Elt F))
  :: StableHlo.unary main_v82 main_v83 (uitofp .f32 : (⟨S512, .i1⟩ : BufTy).Contents (Elt F) → (⟨S512, .f32⟩ : BufTy).Contents (Elt F))
  :: [] )
/-- Each touches TensorCore references only (`HostSeg.ofOps` over `StableHlo.tcRefs`, or a subset by `sub_ucRefs`). -/
theorem hostOps0_5_sub : (hostOps0_5 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.reshape_bufs_sub .., StableHlo.nullary_bufs_sub .., StableHlo.unary_bufs_sub .., StableHlo.reshape_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.nullary_bufs_sub .., StableHlo.unary_bufs_sub .., StableHlo.ternary_bufs_sub .., StableHlo.nullary_bufs_sub .., StableHlo.binary_bufs_sub .., StableHlo.nullary_bufs_sub .., StableHlo.unary_bufs_sub .., StableHlo.binary_bufs_sub .., StableHlo.unary_bufs_sub ..⟩
/-- 13 host operations of @_diag (main_call4), in order. -/
abbrev hostOps0_6 : List (HloOp τ sig (Elt F)) :=
  [ StableHlo.TRef.nullary (.of main_call4_cst : StableHlo.TRef sig ⟨S_, .f32⟩) (constant S_ .f32 0x00000000#32),
    StableHlo.TRef.binary (.of main_v83 : StableHlo.TRef sig ⟨S512, .f32⟩) (.of main_call4_cst : StableHlo.TRef sig ⟨S_, .f32⟩) (.of main_call4_v0 : StableHlo.TRef sig ⟨S512, .f32⟩) (fun x v => pad S512 ![0] ![0] ![0] x v pads_S512_S512_000 h_S_),
    StableHlo.TRef.nullary (.of main_call4_v1 : StableHlo.TRef sig ⟨S512x512, .i32⟩) (iotaInDim S512x512 32 0),
    StableHlo.TRef.nullary (.of main_call4_v2 : StableHlo.TRef sig ⟨S512x512, .i32⟩) (iotaInDim S512x512 32 1),
    StableHlo.TRef.nullary (.of main_call4_c : StableHlo.TRef sig ⟨S_, .i32⟩) (constantI S_ 32 0#32),
    StableHlo.TRef.unary (.of main_call4_c : StableHlo.TRef sig ⟨S_, .i32⟩) (.of main_call4_v3 : StableHlo.TRef sig ⟨S512x512, .i32⟩) (broadcastInDim S512x512 ![] bcast_S_S512x512),
    StableHlo.TRef.binary (.of main_call4_v1 : StableHlo.TRef sig ⟨S512x512, .i32⟩) (.of main_call4_v3 : StableHlo.TRef sig ⟨S512x512, .i32⟩) (.of main_call4_v4 : StableHlo.TRef sig ⟨S512x512, .i32⟩) addi,
    StableHlo.TRef.binary (.of main_call4_v4 : StableHlo.TRef sig ⟨S512x512, .i32⟩) (.of main_call4_v2 : StableHlo.TRef sig ⟨S512x512, .i32⟩) (.of main_call4_v5 : StableHlo.TRef sig ⟨S512x512, .i1⟩) (cmpi .eq),
    StableHlo.TRef.unary (.of main_call4_v0 : StableHlo.TRef sig ⟨S512, .f32⟩) (.of main_call4_v6 : StableHlo.TRef sig ⟨S512x1, .f32⟩) (broadcastInDim S512x1 ![0] bcast_S512_S512x1_0),
    StableHlo.TRef.nullary (.of main_call4_cst_0 : StableHlo.TRef sig ⟨S_, .f32⟩) (constant S_ .f32 0x00000000#32),
    StableHlo.TRef.unary (.of main_call4_v6 : StableHlo.TRef sig ⟨S512x1, .f32⟩) (.of main_call4_call0_v0 : StableHlo.TRef sig ⟨S512x512, .f32⟩) (broadcastInDim S512x512 ![0, 1] bcast_S512x1_S512x512_0_1),
    StableHlo.TRef.unary (.of main_call4_cst_0 : StableHlo.TRef sig ⟨S_, .f32⟩) (.of main_call4_call0_v1 : StableHlo.TRef sig ⟨S512x512, .f32⟩) (broadcastInDim S512x512 ![] bcast_S_S512x512),
    StableHlo.TRef.ternary (.of main_call4_v5 : StableHlo.TRef sig ⟨S512x512, .i1⟩) (.of main_call4_call0_v0 : StableHlo.TRef sig ⟨S512x512, .f32⟩) (.of main_call4_call0_v1 : StableHlo.TRef sig ⟨S512x512, .f32⟩) (.of main_v84 : StableHlo.TRef sig ⟨S512x512, .f32⟩) select ]
/-- Each touches TensorCore references only (`HostSeg.ofOps` over `StableHlo.tcRefs`, or a subset by `sub_ucRefs`). -/
theorem hostOps0_6_sub : (hostOps0_6 : List (HloOp τ sig (Elt F))).Forall fun op => op.bufs ⊆ StableHlo.tcRefs τ sig :=
  ⟨StableHlo.nullary_bufs_sub .., StableHlo.binary_bufs_sub .., StableHlo.nullary_bufs_sub .., StableHlo.nullary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.unary_bufs_sub .., StableHlo.ternary_bufs_sub ..⟩
/-- 21 host operations of @main, in order. -/
abbrev hostOps0_7 : List (HloOp τ sig (Elt F)) :=
  [ StableHlo.binary main_v79 main_v84 main_v85 (addf : (⟨S512x512, .f32⟩ : BufTy).Contents (Elt F) → (⟨S512x512, .f32⟩ : BufTy).Contents (Elt F) → (⟨S512x512, .f32⟩ : BufTy).Contents (Elt F)),
    StableHlo.nullary main_cst_22 (constant S_ .f32 0x00000000#32),
    StableHlo.binary main_v85 main_cst_22 main_v86 ((fun x v => Host.reduceAdd x v reducesTo_S512x512_S512_d0 h_S_) : (⟨S512x512, .f32⟩ : BufTy).Contents (Elt F) → (⟨S_, .f32⟩ : BufTy).Contents (Elt F) → (⟨S512, .f32⟩ : BufTy).Contents (Elt F)),
    StableHlo.nullary main_cst_23 (constant S_ .f32 0x00000000#32),
    StableHlo.binary main_v85 main_cst_23 main_v87 ((fun x v => Host.reduceAdd x v reducesTo_S512x512_S512_d1 h_S_) : (⟨S512x512, .f32⟩ : BufTy).Contents (Elt F) → (⟨S_, .f32⟩ : BufTy).Contents (Elt F) → (⟨S512, .f32⟩ : BufTy).Contents (Elt F)),
    StableHlo.unary main_v85 main_v88 ((transpose S512x512 [1, 0] · transposes_S512x512_S512x512_1_0) : (⟨S512x512, .f32⟩ : BufTy).Contents (Elt F) → (⟨S512x512, .f32⟩ : BufTy).Contents (Elt F)),
    StableHlo.binary main_v88 main_v44 main_v89 ((fun l r => Host.dotGeneral dot_S512x512_S512x6_S512x6_1_0_0_1_n_n none l r) : (⟨S512x512, .f32⟩ : BufTy).Contents (Elt F) → (⟨S512x6, .f32⟩ : BufTy).Contents (Elt F) → (⟨S512x6, .f32⟩ : BufTy).Contents (Elt F)),
    StableHlo.nullary main_cst_24 (constant S_ .f32 0x3F800000#32),
    StableHlo.unary main_cst_24 main_v90 (broadcastInDim S512 ![] bcast_S_S512 : (⟨S_, .f32⟩ : BufTy).Contents (Elt F) → (⟨S512, .f32⟩ : BufTy).Contents (Elt F)),
    StableHlo.binary main_v86 main_v90 main_v91 (maximumf : (⟨S512, .f32⟩ : BufTy).Contents (Elt F) → (⟨S512, .f32⟩ : BufTy).Contents (Elt F) → (⟨S512, .f32⟩ : BufTy).Contents (Elt F)),
    StableHlo.unary main_v91 main_v92 (broadcastInDim S512x1 ![0] bcast_S512_S512x1_0 : (⟨S512, .f32⟩ : BufTy).Contents (Elt F) → (⟨S512x1, .f32⟩ : BufTy).Contents (Elt F)),
    StableHlo.unary main_v92 main_v93 (broadcastInDim S512x6 ![0, 1] bcast_S512x1_S512x6_0_1 : (⟨S512x1, .f32⟩ : BufTy).Contents (Elt F) → (⟨S512x6, .f32⟩ : BufTy).Contents (Elt F)),
    StableHlo.binary main_v89 main_v93 main_v94 (Host.divf : (⟨S512x6, .f32⟩ : BufTy).Contents (Elt F) → (⟨S512x6, .f32⟩ : BufTy).Contents (Elt F) → (⟨S512x6, .f32⟩ : BufTy).Contents (Elt F)),
    StableHlo.binary main_v85 main_v94 main_v95 ((fun l r => Host.dotGeneral dot_S512x512_S512x6_S512x6_1_0_0_1_n_n none l r) : (⟨S512x512, .f32⟩ : BufTy).Contents (Elt F) → (⟨S512x6, .f32⟩ : BufTy).Contents (Elt F) → (⟨S512x6, .f32⟩ : BufTy).Contents (Elt F)),
    StableHlo.nullary main_cst_25 (constant S_ .f32 0x3F800000#32),
    StableHlo.unary main_cst_25 main_v96 (broadcastInDim S512 ![] bcast_S_S512 : (⟨S_, .f32⟩ : BufTy).Contents (Elt F) → (⟨S512, .f32⟩ : BufTy).Contents (Elt F)),
    StableHlo.binary main_v87 main_v96 main_v97 (maximumf : (⟨S512, .f32⟩ : BufTy).Contents (Elt F) → (⟨S512, .f32⟩ : BufTy).Contents (Elt F) → (⟨S512, .f32⟩ : BufTy).Contents (Elt F)),
    StableHlo.unary main_v97 main_v98 (broadcastInDim S512x1 ![0] bcast_S512_S512x1_0 : (⟨S512, .f32⟩ : BufTy).Contents (Elt F) → (⟨S512x1, .f32⟩ : BufTy).Contents (Elt F)),
    StableHlo.unary main_v98 main_v99 (broadcastInDim S512x6 ![0, 1] bcast_S512x1_S512x6_0_1 : (⟨S512x1, .f32⟩ : BufTy).Contents (Elt F) → (⟨S512x6, .f32⟩ : BufTy).Contents (Elt F)),
    StableHlo.binary main_v95 main_v99 main_v100 (Host.divf : (⟨S512x6, .f32⟩ : BufTy).Contents (Elt F) → (⟨S512x6, .f32⟩ : BufTy).Contents (Elt F) → (⟨S512x6, .f32⟩ : BufTy).Contents (Elt F)),
    StableHlo.unary main_v100 main_v101 ((extractStridedSlice S512x4 ![0, 0] · slices_S512x6_S512x4_0_0) : (⟨S512x6, .f32⟩ : BufTy).Contents (Elt F) → (⟨S512x4, .f32⟩ : BufTy).Contents (Elt F)) ]
/-- Each touches TensorCore references only (`HostSeg.ofOps` over `StableHlo.tcRefs`, or a subset by `sub_ucRefs`). -/
theorem hostOps0_7_sub : (hostOps0_7 : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub ..⟩
/-- 7 host operations of @main, window 0 (statements 1 … 60), in order. -/
abbrev main_part0_ops0 : List (HloOp τ sig (Elt F)) :=
  [ StableHlo.unary main_arg0 main_v0 ((transpose S2x16384x6 [0, 2, 1] · transposes_S2x6x16384_S2x16384x6_0_2_1) : (⟨S2x6x16384, .f32⟩ : BufTy).Contents (Elt F) → (⟨S2x16384x6, .f32⟩ : BufTy).Contents (Elt F)),
    StableHlo.reshape main_v0 main_v1 (rfl : (.f32 : EltTy) = .f32) shapeCasts_S2x16384x6_S32768x6,
    StableHlo.unary main_v1 main_v2 ((extractStridedSlice S512x6 ![0, 0] · slices_S32768x6_S512x6_0_0) : (⟨S32768x6, .f32⟩ : BufTy).Contents (Elt F) → (⟨S512x6, .f32⟩ : BufTy).Contents (Elt F)),
    StableHlo.nullary main_c (constantI S_ 32 0#32),
    StableHlo.unary main_v1 main_v3_0 id,
    StableHlo.unary main_c main_v3_1 id,
    StableHlo.unary main_v2 main_v3_2 id ]
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.unary_bufs_sub .., StableHlo.reshape_bufs_sub .., StableHlo.unary_bufs_sub .., StableHlo.nullary_bufs_sub .., StableHlo.unary_bufs_sub .., StableHlo.unary_bufs_sub .., StableHlo.unary_bufs_sub ..⟩
/-- 17 host operations of @main, window 0 (statements 1 … 60), in order. -/
abbrev main_part0_ops1 : List (HloOp τ sig (Elt F)) :=
  [ StableHlo.binary main_v1 main_v1 main_v4 (mulf : (⟨S32768x6, .f32⟩ : BufTy).Contents (Elt F) → (⟨S32768x6, .f32⟩ : BufTy).Contents (Elt F) → (⟨S32768x6, .f32⟩ : BufTy).Contents (Elt F)),
    StableHlo.nullary main_cst (constant S_ .f32 0x00000000#32),
    StableHlo.binary main_v4 main_cst main_v5 ((fun x v => Host.reduceAdd x v reducesTo_S32768x6_S32768_d1 h_S_) : (⟨S32768x6, .f32⟩ : BufTy).Contents (Elt F) → (⟨S_, .f32⟩ : BufTy).Contents (Elt F) → (⟨S32768, .f32⟩ : BufTy).Contents (Elt F)),
    StableHlo.unary main_v5 main_v6 (broadcastInDim S32768x1 ![0] bcast_S32768_S32768x1_0 : (⟨S32768, .f32⟩ : BufTy).Contents (Elt F) → (⟨S32768x1, .f32⟩ : BufTy).Contents (Elt F)),
    StableHlo.unary main_v3_2 main_v7 ((transpose S6x512 [1, 0] · transposes_S512x6_S6x512_1_0) : (⟨S512x6, .f32⟩ : BufTy).Contents (Elt F) → (⟨S6x512, .f32⟩ : BufTy).Contents (Elt F)),
    StableHlo.binary main_v1 main_v7 main_v8 ((fun l r => Host.dotGeneral dot_S32768x6_S6x512_S32768x512_1_0_0_1_n_n none l r) : (⟨S32768x6, .f32⟩ : BufTy).Contents (Elt F) → (⟨S6x512, .f32⟩ : BufTy).Contents (Elt F) → (⟨S32768x512, .f32⟩ : BufTy).Contents (Elt F)),
    StableHlo.nullary main_cst_0 (constant S_ .f32 0x40000000#32),
    StableHlo.unary main_cst_0 main_v9 (broadcastInDim S32768x512 ![] bcast_S_S32768x512 : (⟨S_, .f32⟩ : BufTy).Contents (Elt F) → (⟨S32768x512, .f32⟩ : BufTy).Contents (Elt F)),
    StableHlo.binary main_v9 main_v8 main_v10 (mulf : (⟨S32768x512, .f32⟩ : BufTy).Contents (Elt F) → (⟨S32768x512, .f32⟩ : BufTy).Contents (Elt F) → (⟨S32768x512, .f32⟩ : BufTy).Contents (Elt F)),
    StableHlo.unary main_v6 main_v11 (broadcastInDim S32768x512 ![0, 1] bcast_S32768x1_S32768x512_0_1 : (⟨S32768x1, .f32⟩ : BufTy).Contents (Elt F) → (⟨S32768x512, .f32⟩ : BufTy).Contents (Elt F)),
    StableHlo.binary main_v11 main_v10 main_v12 (subf : (⟨S32768x512, .f32⟩ : BufTy).Contents (Elt F) → (⟨S32768x512, .f32⟩ : BufTy).Contents (Elt F) → (⟨S32768x512, .f32⟩ : BufTy).Contents (Elt F)),
    StableHlo.binary main_v3_2 main_v3_2 main_v13 (mulf : (⟨S512x6, .f32⟩ : BufTy).Contents (Elt F) → (⟨S512x6, .f32⟩ : BufTy).Contents (Elt F) → (⟨S512x6, .f32⟩ : BufTy).Contents (Elt F)),
    StableHlo.nullary main_cst_1 (constant S_ .f32 0x00000000#32),
    StableHlo.binary main_v13 main_cst_1 main_v14 ((fun x v => Host.reduceAdd x v reducesTo_S512x6_S512_d1 h_S_) : (⟨S512x6, .f32⟩ : BufTy).Contents (Elt F) → (⟨S_, .f32⟩ : BufTy).Contents (Elt F) → (⟨S512, .f32⟩ : BufTy).Contents (Elt F)),
    StableHlo.unary main_v14 main_v15 (broadcastInDim S1x512 ![1] bcast_S512_S1x512_1 : (⟨S512, .f32⟩ : BufTy).Contents (Elt F) → (⟨S1x512, .f32⟩ : BufTy).Contents (Elt F)),
    StableHlo.unary main_v15 main_v16 (broadcastInDim S32768x512 ![0, 1] bcast_S1x512_S32768x512_0_1 : (⟨S1x512, .f32⟩ : BufTy).Contents (Elt F) → (⟨S32768x512, .f32⟩ : BufTy).Contents (Elt F)),
    StableHlo.binary main_v12 main_v16 main_v17 (addf : (⟨S32768x512, .f32⟩ : BufTy).Contents (Elt F) → (⟨S32768x512, .f32⟩ : BufTy).Contents (Elt F) → (⟨S32768x512, .f32⟩ : BufTy).Contents (Elt F)) ]
/-- Each touches TensorCore references only (`HostSeg.ofOps` over `StableHlo.tcRefs`, or a subset by `sub_ucRefs`). -/
theorem main_part0_ops1_sub : (main_part0_ops1 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub ..⟩
/-- 5 host operations of @argmin (main_call2), window 0 (statements 1 … 60), in order. -/
abbrev main_part0_ops2 : List (HloOp τ sig (Elt F)) :=
  [ StableHlo.TRef.nullary (.of main_call2_v0 : StableHlo.TRef sig ⟨S32768x512, .i32⟩) (iotaInDim S32768x512 32 1),
    StableHlo.TRef.nullary (.of main_call2_cst : StableHlo.TRef sig ⟨S_, .f32⟩) (constant S_ .f32 0x7F800000#32),
    StableHlo.TRef.nullary (.of main_call2_c : StableHlo.TRef sig ⟨S_, .i32⟩) (constantI S_ 32 0#32),
    StableHlo.TRef.quaternary (.of main_v17 : StableHlo.TRef sig ⟨S32768x512, .f32⟩) (.of main_call2_v0 : StableHlo.TRef sig ⟨S32768x512, .i32⟩) (.of main_call2_cst : StableHlo.TRef sig ⟨S_, .f32⟩) (.of main_call2_c : StableHlo.TRef sig ⟨S_, .i32⟩) (.of main_call2_v1_0 : StableHlo.TRef sig ⟨S32768, .f32⟩) (fun x y u v j => (Host.argReduce reducer_argmin_f32_i32 x y u v reducesTo_S32768x512_S32768_d1 h_S_ j).1),
    StableHlo.TRef.quaternary (.of main_v17 : StableHlo.TRef sig ⟨S32768x512, .f32⟩) (.of main_call2_v0 : StableHlo.TRef sig ⟨S32768x512, .i32⟩) (.of main_call2_cst : StableHlo.TRef sig ⟨S_, .f32⟩) (.of main_call2_c : StableHlo.TRef sig ⟨S_, .i32⟩) (.of main_v18 : StableHlo.TRef sig ⟨S32768, .i32⟩) (fun x y u v j => (Host.argReduce reducer_argmin_f32_i32 x y u v reducesTo_S32768x512_S32768_d1 h_S_ j).2) ]
/-- Each touches TensorCore references only (`HostSeg.ofOps` over `StableHlo.tcRefs`, or a subset by `sub_ucRefs`). -/
theorem main_part0_ops2_sub : (main_part0_ops2 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 34 host operations of @main, window 0 (statements 1 … 60), in order. -/
abbrev main_part0_ops3 : List (HloOp τ sig (Elt F)) :=
  ( StableHlo.nullary main_cst_2 (constant S_ .f32 0x00000000#32)
  :: StableHlo.unary main_cst_2 main_v19 (broadcastInDim S512x6 ![] bcast_S_S512x6 : (⟨S_, .f32⟩ : BufTy).Contents (Elt F) → (⟨S512x6, .f32⟩ : BufTy).Contents (Elt F))
  :: StableHlo.nullary main_c_3 (constantI S_ 32 0#32)
  :: StableHlo.unary main_c_3 main_v20 (broadcastInDim S32768 ![] bcast_S_S32768 : (⟨S_, .i32⟩ : BufTy).Contents (Elt F) → (⟨S32768, .i32⟩ : BufTy).Contents (Elt F))
  :: StableHlo.binary main_v18 main_v20 main_v21 (cmpi .slt : (⟨S32768, .i32⟩ : BufTy).Contents (Elt F) → (⟨S32768, .i32⟩ : BufTy).Contents (Elt F) → (⟨S32768, .i1⟩ : BufTy).Contents (Elt F))
  :: StableHlo.nullary main_c_4 (constantI S_ 32 512#32)
  :: StableHlo.unary main_c_4 main_v22 (broadcastInDim S32768 ![] bcast_S_S32768 : (⟨S_, .i32⟩ : BufTy).Contents (Elt F) → (⟨S32768, .i32⟩ : BufTy).Contents (Elt F))
  :: StableHlo.binary main_v18 main_v22 main_v23 (addi : (⟨S32768, .i32⟩ : BufTy).Contents (Elt F) → (⟨S32768, .i32⟩ : BufTy).Contents (Elt F) → (⟨S32768, .i32⟩ : BufTy).Contents (Elt F))
  :: StableHlo.ternary main_v21 main_v23 main_v18 main_v24 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v24 main_v25 (broadcastInDim S32768x1 ![0] bcast_S32768_S32768x1_0 : (⟨S32768, .i32⟩ : BufTy).Contents (Elt F) → (⟨S32768x1, .i32⟩ : BufTy).Contents (Elt F))
  :: StableHlo.ternary main_v19 main_v25 main_v1 main_v26 ((fun x i u => Host.scatterAdd scatter_S512x6_S32768x1_S32768x6_1_0_0_1 x i u) : (⟨S512x6, .f32⟩ : BufTy).Contents (Elt F) → (⟨S32768x1, .i32⟩ : BufTy).Contents (Elt F) → (⟨S32768x6, .f32⟩ : BufTy).Contents (Elt F) → (⟨S512x6, .f32⟩ : BufTy).Contents (Elt F))
  :: StableHlo.nullary main_cst_5 (constant S_ .f32 0x00000000#32)
  :: StableHlo.unary main_cst_5 main_v27 (broadcastInDim S512 ![] bcast_S_S512 : (⟨S_, .f32⟩ : BufTy).Contents (Elt F) → (⟨S512, .f32⟩ : BufTy).Contents (Elt F))
  :: StableHlo.nullary main_c_6 (constantI S_ 32 0#32)
  :: StableHlo.unary main_c_6 main_v28 (broadcastInDim S32768 ![] bcast_S_S32768 : (⟨S_, .i32⟩ : BufTy).Contents (Elt F) → (⟨S32768, .i32⟩ : BufTy).Contents (Elt F))
  :: StableHlo.binary main_v18 main_v28 main_v29 (cmpi .slt : (⟨S32768, .i32⟩ : BufTy).Contents (Elt F) → (⟨S32768, .i32⟩ : BufTy).Contents (Elt F) → (⟨S32768, .i1⟩ : BufTy).Contents (Elt F))
  :: StableHlo.nullary main_c_7 (constantI S_ 32 512#32)
  :: StableHlo.unary main_c_7 main_v30 (broadcastInDim S32768 ![] bcast_S_S32768 : (⟨S_, .i32⟩ : BufTy).Contents (Elt F) → (⟨S32768, .i32⟩ : BufTy).Contents (Elt F))
  :: StableHlo.binary main_v18 main_v30 main_v31 (addi : (⟨S32768, .i32⟩ : BufTy).Contents (Elt F) → (⟨S32768, .i32⟩ : BufTy).Contents (Elt F) → (⟨S32768, .i32⟩ : BufTy).Contents (Elt F))
  :: StableHlo.ternary main_v29 main_v31 main_v18 main_v32 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v32 main_v33 (broadcastInDim S32768x1 ![0] bcast_S32768_S32768x1_0 : (⟨S32768, .i32⟩ : BufTy).Contents (Elt F) → (⟨S32768x1, .i32⟩ : BufTy).Contents (Elt F))
  :: StableHlo.nullary main_cst_8 (constant S_ .f32 0x3F800000#32)
  :: StableHlo.unary main_cst_8 main_v34 (broadcastInDim S32768 ![] bcast_S_S32768 : (⟨S_, .f32⟩ : BufTy).Contents (Elt F) → (⟨S32768, .f32⟩ : BufTy).Contents (Elt F))
  :: StableHlo.ternary main_v27 main_v33 main_v34 main_v35 ((fun x i u => Host.scatterAdd scatter_S512_S32768x1_S32768_n_0_0_1 x i u) : (⟨S512, .f32⟩ : BufTy).Contents (Elt F) → (⟨S32768x1, .i32⟩ : BufTy).Contents (Elt F) → (⟨S32768, .f32⟩ : BufTy).Contents (Elt F) → (⟨S512, .f32⟩ : BufTy).Contents (Elt F))
  :: StableHlo.nullary main_cst_9 (constant S_ .f32 0x3F800000#32)
  :: StableHlo.unary main_cst_9 main_v36 (broadcastInDim S512 ![] bcast_S_S512 : (⟨S_, .f32⟩ : BufTy).Contents (Elt F) → (⟨S512, .f32⟩ : BufTy).Contents (Elt F))
  :: StableHlo.binary main_v35 main_v36 main_v37 (maximumf : (⟨S512, .f32⟩ : BufTy).Contents (Elt F) → (⟨S512, .f32⟩ : BufTy).Contents (Elt F) → (⟨S512, .f32⟩ : BufTy).Contents (Elt F))
  :: StableHlo.unary main_v37 main_v38 (broadcastInDim S512x1 ![0] bcast_S512_S512x1_0 : (⟨S512, .f32⟩ : BufTy).Contents (Elt F) → (⟨S512x1, .f32⟩ : BufTy).Contents (Elt F))
  :: StableHlo.unary main_v38 main_v39 (broadcastInDim S512x6 ![0, 1] bcast_S512x1_S512x6_0_1 : (⟨S512x1, .f32⟩ : BufTy).Contents (Elt F) → (⟨S512x6, .f32⟩ : BufTy).Contents (Elt F))
  :: StableHlo.binary main_v26 main_v39 main_v40 (Host.divf : (⟨S512x6, .f32⟩ : BufTy).Contents (Elt F) → (⟨S512x6, .f32⟩ : BufTy).Contents (Elt F) → (⟨S512x6, .f32⟩ : BufTy).Contents (Elt F))
  :: StableHlo.unary main_v35 main_v41 (broadcastInDim S512x1 ![0] bcast_S512_S512x1_0 : (⟨S512, .f32⟩ : BufTy).Contents (Elt F) → (⟨S512x1, .f32⟩ : BufTy).Contents (Elt F))
  :: StableHlo.nullary main_cst_10 (constant S_ .f32 0x00000000#32)
  :: StableHlo.unary main_cst_10 main_v42 (broadcastInDim S512x1 ![] bcast_S_S512x1 : (⟨S_, .f32⟩ : BufTy).Contents (Elt F) → (⟨S512x1, .f32⟩ : BufTy).Contents (Elt F))
  :: StableHlo.binary main_v41 main_v42 main_v43 (cmpf .ogt : (⟨S512x1, .f32⟩ : BufTy).Contents (Elt F) → (⟨S512x1, .f32⟩ : BufTy).Contents (Elt F) → (⟨S512x1, .i1⟩ : BufTy).Contents (Elt F))
  :: [] )
/-- Each touches TensorCore references only (`HostSeg.ofOps` over `StableHlo.tcRefs`, or a subset by `sub_ucRefs`). -/
theorem main_part0_ops3_sub : (main_part0_ops3 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    HostLoop.enter 0,
    StableHlo.seq main_part0_ops1,
    StableHlo.seq main_part0_ops2 ]
  (StableHlo.seq main_part0_ops3) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons]
  chain_rfl

/-- 2 host operations of @_where (main_call3), window 1 (statements 61 … 120), in order. -/
abbrev main_part1_ops0 : List (HloOp τ sig (Elt F)) :=
  [ StableHlo.TRef.unary (.of main_v43 : StableHlo.TRef sig ⟨S512x1, .i1⟩) (.of main_call3_v0 : StableHlo.TRef sig ⟨S512x6, .i1⟩) (broadcastInDim S512x6 ![0, 1] bcast_S512x1_S512x6_0_1),
    StableHlo.TRef.ternary (.of main_call3_v0 : StableHlo.TRef sig ⟨S512x6, .i1⟩) (.of main_v40 : StableHlo.TRef sig ⟨S512x6, .f32⟩) (.of main_v3_2 : StableHlo.TRef sig ⟨S512x6, .f32⟩) (.of main_v44 : StableHlo.TRef sig ⟨S512x6, .f32⟩) select ]
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  ⟨StableHlo.unary_bufs_sub .., StableHlo.ternary_bufs_sub ..⟩
/-- 52 host operations of @main, window 1 (statements 61 … 120), in order. -/
abbrev main_part1_ops1 : List (HloOp τ sig (Elt F)) :=
  ( StableHlo.binary main_v44 main_v44 main_v45 (mulf : (⟨S512x6, .f32⟩ : BufTy).Contents (Elt F) → (⟨S512x6, .f32⟩ : BufTy).Contents (Elt F) → (⟨S512x6, .f32⟩ : BufTy).Contents (Elt F))
  :: StableHlo.nullary main_cst_11 (constant S_ .f32 0x00000000#32)
  :: StableHlo.binary main_v45 main_cst_11 main_v46 ((fun x v => Host.reduceAdd x v reducesTo_S512x6_S512_d1 h_S_) : (⟨S512x6, .f32⟩ : BufTy).Contents (Elt F) → (⟨S_, .f32⟩ : BufTy).Contents (Elt F) → (⟨S512, .f32⟩ : BufTy).Contents (Elt F))
  :: StableHlo.unary main_v46 main_v47 (broadcastInDim S512x1 ![0] bcast_S512_S512x1_0 : (⟨S512, .f32⟩ : BufTy).Contents (Elt F) → (⟨S512x1, .f32⟩ : BufTy).Contents (Elt F))
  :: StableHlo.unary main_v44 main_v48 ((transpose S6x512 [1, 0] · transposes_S512x6_S6x512_1_0) : (⟨S512x6, .f32⟩ : BufTy).Contents (Elt F) → (⟨S6x512, .f32⟩ : BufTy).Contents (Elt F))
  :: StableHlo.binary main_v44 main_v48 main_v49 ((fun l r => Host.dotGeneral dot_S512x6_S6x512_S512x512_1_0_0_1_n_n none l r) : (⟨S512x6, .f32⟩ : BufTy).Contents (Elt F) → (⟨S6x512, .f32⟩ : BufTy).Contents (Elt F) → (⟨S512x512, .f32⟩ : BufTy).Contents (Elt F))
  :: StableHlo.nullary main_cst_12 (constant S_ .f32 0x40000000#32)
  :: StableHlo.unary main_cst_12 main_v50 (broadcastInDim S512x512 ![] bcast_S_S512x512 : (⟨S_, .f32⟩ : BufTy).Contents (Elt F) → (⟨S512x512, .f32⟩ : BufTy).Contents (Elt F))
  :: StableHlo.binary main_v50 main_v49 main_v51 (mulf : (⟨S512x512, .f32⟩ : BufTy).Contents (Elt F) → (⟨S512x512, .f32⟩ : BufTy).Contents (Elt F) → (⟨S512x512, .f32⟩ : BufTy).Contents (Elt F))
  :: StableHlo.unary main_v47 main_v52 (broadcastInDim S512x512 ![0, 1] bcast_S512x1_S512x512_0_1 : (⟨S512x1, .f32⟩ : BufTy).Contents (Elt F) → (⟨S512x512, .f32⟩ : BufTy).Contents (Elt F))
  :: StableHlo.binary main_v52 main_v51 main_v53 (subf : (⟨S512x512, .f32⟩ : BufTy).Contents (Elt F) → (⟨S512x512, .f32⟩ : BufTy).Contents (Elt F) → (⟨S512x512, .f32⟩ : BufTy).Contents (Elt F))
  :: StableHlo.binary main_v44 main_v44 main_v54 (mulf : (⟨S512x6, .f32⟩ : BufTy).Contents (Elt F) → (⟨S512x6, .f32⟩ : BufTy).Contents (Elt F) → (⟨S512x6, .f32⟩ : BufTy).Contents (Elt F))
  :: StableHlo.nullary main_cst_13 (constant S_ .f32 0x00000000#32)
  :: StableHlo.binary main_v54 main_cst_13 main_v55 ((fun x v => Host.reduceAdd x v reducesTo_S512x6_S512_d1 h_S_) : (⟨S512x6, .f32⟩ : BufTy).Contents (Elt F) → (⟨S_, .f32⟩ : BufTy).Contents (Elt F) → (⟨S512, .f32⟩ : BufTy).Contents (Elt F))
  :: StableHlo.unary main_v55 main_v56 (broadcastInDim S1x512 ![1] bcast_S512_S1x512_1 : (⟨S512, .f32⟩ : BufTy).Contents (Elt F) → (⟨S1x512, .f32⟩ : BufTy).Contents (Elt F))
  :: StableHlo.unary main_v56 main_v57 (broadcastInDim S512x512 ![0, 1] bcast_S1x512_S512x512_0_1 : (⟨S1x512, .f32⟩ : BufTy).Contents (Elt F) → (⟨S512x512, .f32⟩ : BufTy).Contents (Elt F))
  :: StableHlo.binary main_v53 main_v57 main_v58 (addf : (⟨S512x512, .f32⟩ : BufTy).Contents (Elt F) → (⟨S512x512, .f32⟩ : BufTy).Contents (Elt F) → (⟨S512x512, .f32⟩ : BufTy).Contents (Elt F))
  :: StableHlo.unary main_v58 main_v59 (Host.negf : (⟨S512x512, .f32⟩ : BufTy).Contents (Elt F) → (⟨S512x512, .f32⟩ : BufTy).Contents (Elt F))
  :: StableHlo.unary main_v59 main_values ((fun x => (Host.topK S512x16 1 (FloatOps.cmpfTotal .gt) x sliceFits_S512x512_S512x16).1) : (⟨S512x512, .f32⟩ : BufTy).Contents (Elt F) → (⟨S512x16, .f32⟩ : BufTy).Contents (Elt F))
  :: StableHlo.unary main_v59 main_indices ((fun x => (Host.topK S512x16 1 (FloatOps.cmpfTotal .gt) x sliceFits_S512x512_S512x16).2) : (⟨S512x512, .f32⟩ : BufTy).Contents (Elt F) → (⟨S512x16, .i32⟩ : BufTy).Contents (Elt F))
  :: StableHlo.reshape main_indices main_v60 (rfl : (.i32 : EltTy) = .i32) shapeCasts_S512x16_S8192
  :: StableHlo.nullary main_v61 (iotaInDim S512 32 0)
  :: StableHlo.unary main_v61 main_v62 (broadcastInDim S512x16 ![0] bcast_S512_S512x16_0 : (⟨S512, .i32⟩ : BufTy).Contents (Elt F) → (⟨S512x16, .i32⟩ : BufTy).Contents (Elt F))
  :: StableHlo.reshape main_v62 main_v63 (rfl : (.i32 : EltTy) = .i32) shapeCasts_S512x16_S8192
  :: StableHlo.nullary main_cst_14 (constant S_ .f32 0x00000000#32)
  :: StableHlo.unary main_cst_14 main_v64 (broadcastInDim S512x512 ![] bcast_S_S512x512 : (⟨S_, .f32⟩ : BufTy).Contents (Elt F) → (⟨S512x512, .f32⟩ : BufTy).Contents (Elt F))
  :: StableHlo.nullary main_c_15 (constantI S_ 32 0#32)
  :: StableHlo.unary main_c_15 main_v65 (broadcastInDim S8192 ![] bcast_S_S8192 : (⟨S_, .i32⟩ : BufTy).Contents (Elt F) → (⟨S8192, .i32⟩ : BufTy).Contents (Elt F))
  :: StableHlo.binary main_v60 main_v65 main_v66 (cmpi .slt : (⟨S8192, .i32⟩ : BufTy).Contents (Elt F) → (⟨S8192, .i32⟩ : BufTy).Contents (Elt F) → (⟨S8192, .i1⟩ : BufTy).Contents (Elt F))
  :: StableHlo.nullary main_c_16 (constantI S_ 32 512#32)
  :: StableHlo.unary main_c_16 main_v67 (broadcastInDim S8192 ![] bcast_S_S8192 : (⟨S_, .i32⟩ : BufTy).Contents (Elt F) → (⟨S8192, .i32⟩ : BufTy).Contents (Elt F))
  :: StableHlo.binary main_v60 main_v67 main_v68 (addi : (⟨S8192, .i32⟩ : BufTy).Contents (Elt F) → (⟨S8192, .i32⟩ : BufTy).Contents (Elt F) → (⟨S8192, .i32⟩ : BufTy).Contents (Elt F))
  :: StableHlo.ternary main_v66 main_v68 main_v60 main_v69 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.nullary main_c_17 (constantI S_ 32 0#32)
  :: StableHlo.unary main_c_17 main_v70 (broadcastInDim S8192 ![] bcast_S_S8192 : (⟨S_, .i32⟩ : BufTy).Contents (Elt F) → (⟨S8192, .i32⟩ : BufTy).Contents (Elt F))
  :: StableHlo.binary main_v63 main_v70 main_v71 (cmpi .slt : (⟨S8192, .i32⟩ : BufTy).Contents (Elt F) → (⟨S8192, .i32⟩ : BufTy).Contents (Elt F) → (⟨S8192, .i1⟩ : BufTy).Contents (Elt F))
  :: StableHlo.nullary main_c_18 (constantI S_ 32 512#32)
  :: StableHlo.unary main_c_18 main_v72 (broadcastInDim S8192 ![] bcast_S_S8192 : (⟨S_, .i32⟩ : BufTy).Contents (Elt F) → (⟨S8192, .i32⟩ : BufTy).Contents (Elt F))
  :: StableHlo.binary main_v63 main_v72 main_v73 (addi : (⟨S8192, .i32⟩ : BufTy).Contents (Elt F) → (⟨S8192, .i32⟩ : BufTy).Contents (Elt F) → (⟨S8192, .i32⟩ : BufTy).Contents (Elt F))
  :: StableHlo.ternary main_v71 main_v73 main_v63 main_v74 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.unary main_v69 main_v75 (broadcastInDim S8192x1 ![0] bcast_S8192_S8192x1_0 : (⟨S8192, .i32⟩ : BufTy).Contents (Elt F) → (⟨S8192x1, .i32⟩ : BufTy).Contents (Elt F))
  :: StableHlo.unary main_v74 main_v76 (broadcastInDim S8192x1 ![0] bcast_S8192_S8192x1_0 : (⟨S8192, .i32⟩ : BufTy).Contents (Elt F) → (⟨S8192x1, .i32⟩ : BufTy).Contents (Elt F))
  :: StableHlo.binary main_v75 main_v76 main_v77 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F))
  :: StableHlo.nullary main_cst_19 (constant S_ .f32 0x3F800000#32)
  :: StableHlo.unary main_cst_19 main_v78 (broadcastInDim S8192 ![] bcast_S_S8192 : (⟨S_, .f32⟩ : BufTy).Contents (Elt F) → (⟨S8192, .f32⟩ : BufTy).Contents (Elt F))
  :: StableHlo.ternary main_v64 main_v77 main_v78 main_v79 ((fun x i u => Host.scatter scatter_S512x512_S8192x2_S8192_n_01_01_1 (fun _ b => b) x i u) : (⟨S512x512, .f32⟩ : BufTy).Contents (Elt F) → (⟨S8192x2, .i32⟩ : BufTy).Contents (Elt F) → (⟨S8192, .f32⟩ : BufTy).Contents (Elt F) → (⟨S512x512, .f32⟩ : BufTy).Contents (Elt F))
  :: StableHlo.nullary main_cst_20 (constant S_ .f32 0x00000000#32)
  :: StableHlo.binary main_v79 main_cst_20 main_v80 ((fun x v => Host.reduceAdd x v reducesTo_S512x512_S512_d1 h_S_) : (⟨S512x512, .f32⟩ : BufTy).Contents (Elt F) → (⟨S_, .f32⟩ : BufTy).Contents (Elt F) → (⟨S512, .f32⟩ : BufTy).Contents (Elt F))
  :: StableHlo.nullary main_cst_21 (constant S_ .f32 0x00000000#32)
  :: StableHlo.unary main_cst_21 main_v81 (broadcastInDim S512 ![] bcast_S_S512 : (⟨S_, .f32⟩ : BufTy).Contents (Elt F) → (⟨S512, .f32⟩ : BufTy).Contents (Elt F))
  :: StableHlo.binary main_v80 main_v81 main_v82 (cmpf .oeq : (⟨S512, .f32⟩ : BufTy).Contents (Elt F) → (⟨S512, .f32⟩ : BufTy).Contents (Elt F) → (⟨S512, .i1⟩ : BufTy).Contents (Elt F))
  :: StableHlo.unary main_v82 main_v83 (uitofp .f32 : (⟨S512, .i1⟩ : BufTy).Contents (Elt F) → (⟨S512, .f32⟩ : BufTy).Contents (Elt F))
  :: [] )
/-- Each touches TensorCore references only (`HostSeg.ofOps` over `StableHlo.tcRefs`, or a subset by `sub_ucRefs`). -/
theorem main_part1_ops1_sub : (main_part1_ops1 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.reshape_bufs_sub .., StableHlo.nullary_bufs_sub .., StableHlo.unary_bufs_sub .., StableHlo.reshape_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.nullary_bufs_sub .., StableHlo.unary_bufs_sub .., StableHlo.ternary_bufs_sub .., StableHlo.nullary_bufs_sub .., StableHlo.binary_bufs_sub .., StableHlo.nullary_bufs_sub .., StableHlo.unary_bufs_sub .., StableHlo.binary_bufs_sub .., StableHlo.unary_bufs_sub ..⟩
/-- 13 host operations of @_diag (main_call4), window 1 (statements 61 … 120), in order. -/
abbrev main_part1_ops2 : List (HloOp τ sig (Elt F)) :=
  [ StableHlo.TRef.nullary (.of main_call4_cst : StableHlo.TRef sig ⟨S_, .f32⟩) (constant S_ .f32 0x00000000#32),
    StableHlo.TRef.binary (.of main_v83 : StableHlo.TRef sig ⟨S512, .f32⟩) (.of main_call4_cst : StableHlo.TRef sig ⟨S_, .f32⟩) (.of main_call4_v0 : StableHlo.TRef sig ⟨S512, .f32⟩) (fun x v => pad S512 ![0] ![0] ![0] x v pads_S512_S512_000 h_S_),
    StableHlo.TRef.nullary (.of main_call4_v1 : StableHlo.TRef sig ⟨S512x512, .i32⟩) (iotaInDim S512x512 32 0),
    StableHlo.TRef.nullary (.of main_call4_v2 : StableHlo.TRef sig ⟨S512x512, .i32⟩) (iotaInDim S512x512 32 1),
    StableHlo.TRef.nullary (.of main_call4_c : StableHlo.TRef sig ⟨S_, .i32⟩) (constantI S_ 32 0#32),
    StableHlo.TRef.unary (.of main_call4_c : StableHlo.TRef sig ⟨S_, .i32⟩) (.of main_call4_v3 : StableHlo.TRef sig ⟨S512x512, .i32⟩) (broadcastInDim S512x512 ![] bcast_S_S512x512),
    StableHlo.TRef.binary (.of main_call4_v1 : StableHlo.TRef sig ⟨S512x512, .i32⟩) (.of main_call4_v3 : StableHlo.TRef sig ⟨S512x512, .i32⟩) (.of main_call4_v4 : StableHlo.TRef sig ⟨S512x512, .i32⟩) addi,
    StableHlo.TRef.binary (.of main_call4_v4 : StableHlo.TRef sig ⟨S512x512, .i32⟩) (.of main_call4_v2 : StableHlo.TRef sig ⟨S512x512, .i32⟩) (.of main_call4_v5 : StableHlo.TRef sig ⟨S512x512, .i1⟩) (cmpi .eq),
    StableHlo.TRef.unary (.of main_call4_v0 : StableHlo.TRef sig ⟨S512, .f32⟩) (.of main_call4_v6 : StableHlo.TRef sig ⟨S512x1, .f32⟩) (broadcastInDim S512x1 ![0] bcast_S512_S512x1_0),
    StableHlo.TRef.nullary (.of main_call4_cst_0 : StableHlo.TRef sig ⟨S_, .f32⟩) (constant S_ .f32 0x00000000#32),
    StableHlo.TRef.unary (.of main_call4_v6 : StableHlo.TRef sig ⟨S512x1, .f32⟩) (.of main_call4_call0_v0 : StableHlo.TRef sig ⟨S512x512, .f32⟩) (broadcastInDim S512x512 ![0, 1] bcast_S512x1_S512x512_0_1),
    StableHlo.TRef.unary (.of main_call4_cst_0 : StableHlo.TRef sig ⟨S_, .f32⟩) (.of main_call4_call0_v1 : StableHlo.TRef sig ⟨S512x512, .f32⟩) (broadcastInDim S512x512 ![] bcast_S_S512x512),
    StableHlo.TRef.ternary (.of main_call4_v5 : StableHlo.TRef sig ⟨S512x512, .i1⟩) (.of main_call4_call0_v0 : StableHlo.TRef sig ⟨S512x512, .f32⟩) (.of main_call4_call0_v1 : StableHlo.TRef sig ⟨S512x512, .f32⟩) (.of main_v84 : StableHlo.TRef sig ⟨S512x512, .f32⟩) select ]
/-- Each touches TensorCore references only (`HostSeg.ofOps` over `StableHlo.tcRefs`, or a subset by `sub_ucRefs`). -/
theorem main_part1_ops2_sub : (main_part1_ops2 : List (HloOp τ sig (Elt F))).Forall fun op => op.bufs ⊆ StableHlo.tcRefs τ sig :=
  ⟨StableHlo.nullary_bufs_sub .., StableHlo.binary_bufs_sub .., StableHlo.nullary_bufs_sub .., StableHlo.nullary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.unary_bufs_sub .., StableHlo.ternary_bufs_sub ..⟩
/-- 6 host operations of @main, window 1 (statements 61 … 120), in order. -/
abbrev main_part1_ops3 : List (HloOp τ sig (Elt F)) :=
  [ StableHlo.binary main_v79 main_v84 main_v85 (addf : (⟨S512x512, .f32⟩ : BufTy).Contents (Elt F) → (⟨S512x512, .f32⟩ : BufTy).Contents (Elt F) → (⟨S512x512, .f32⟩ : BufTy).Contents (Elt F)),
    StableHlo.nullary main_cst_22 (constant S_ .f32 0x00000000#32),
    StableHlo.binary main_v85 main_cst_22 main_v86 ((fun x v => Host.reduceAdd x v reducesTo_S512x512_S512_d0 h_S_) : (⟨S512x512, .f32⟩ : BufTy).Contents (Elt F) → (⟨S_, .f32⟩ : BufTy).Contents (Elt F) → (⟨S512, .f32⟩ : BufTy).Contents (Elt F)),
    StableHlo.nullary main_cst_23 (constant S_ .f32 0x00000000#32),
    StableHlo.binary main_v85 main_cst_23 main_v87 ((fun x v => Host.reduceAdd x v reducesTo_S512x512_S512_d1 h_S_) : (⟨S512x512, .f32⟩ : BufTy).Contents (Elt F) → (⟨S_, .f32⟩ : BufTy).Contents (Elt F) → (⟨S512, .f32⟩ : BufTy).Contents (Elt F)),
    StableHlo.unary main_v85 main_v88 ((transpose S512x512 [1, 0] · transposes_S512x512_S512x512_1_0) : (⟨S512x512, .f32⟩ : BufTy).Contents (Elt F) → (⟨S512x512, .f32⟩ : BufTy).Contents (Elt F)) ]
/-- Each touches TensorCore references only (`HostSeg.ofOps` over `StableHlo.tcRefs`, or a subset by `sub_ucRefs`). -/
theorem main_part1_ops3_sub : (main_part1_ops3 : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub .., StableHlo.binary_bufs_sub .., StableHlo.unary_bufs_sub ..⟩
/-- Window 1 of `main` (`main_part1`, statements 61 … 120) is the chain of ITS items ending in the last
    (`Pipeline.chainK`: no closing `pure`, the window's last statement being in tail position), each item but the last aligned with the
    window's statements, then `chain_rfl`. -/
theorem main_part1_chain (c : Dev nD) : main_part1 (F := F) c = (Pipeline.chainK
  [ StableHlo.seq main_part1_ops0,
    StableHlo.seq main_part1_ops1,
    StableHlo.seq main_part1_ops2 ]
  (StableHlo.seq main_part1_ops3) : Prog (TpuEff nD τ sig (Elt F) (HostLoop.Sig (Pipeline.Sig Λ₀ (Fin 0) fun p => (pcfgs (F := F) p).Adm) 1) .tc) PUnit) := by
  rewrite [Pipeline.chainK_cons, StableHlo.chainK_seq_cons, Pipeline.chainK_cons]
  chain_rfl

/-- 15 host operations of @main, window 2 (statements 121 … 136), in order. -/
abbrev main_part2_ops0 : List (HloOp τ sig (Elt F)) :=
  [ StableHlo.binary main_v88 main_v44 main_v89 ((fun l r => Host.dotGeneral dot_S512x512_S512x6_S512x6_1_0_0_1_n_n none l r) : (⟨S512x512, .f32⟩ : BufTy).Contents (Elt F) → (⟨S512x6, .f32⟩ : BufTy).Contents (Elt F) → (⟨S512x6, .f32⟩ : BufTy).Contents (Elt F)),
    StableHlo.nullary main_cst_24 (constant S_ .f32 0x3F800000#32),
    StableHlo.unary main_cst_24 main_v90 (broadcastInDim S512 ![] bcast_S_S512 : (⟨S_, .f32⟩ : BufTy).Contents (Elt F) → (⟨S512, .f32⟩ : BufTy).Contents (Elt F)),
    StableHlo.binary main_v86 main_v90 main_v91 (maximumf : (⟨S512, .f32⟩ : BufTy).Contents (Elt F) → (⟨S512, .f32⟩ : BufTy).Contents (Elt F) → (⟨S512, .f32⟩ : BufTy).Contents (Elt F)),
    StableHlo.unary main_v91 main_v92 (broadcastInDim S512x1 ![0] bcast_S512_S512x1_0 : (⟨S512, .f32⟩ : BufTy).Contents (Elt F) → (⟨S512x1, .f32⟩ : BufTy).Contents (Elt F)),
    StableHlo.unary main_v92 main_v93 (broadcastInDim S512x6 ![0, 1] bcast_S512x1_S512x6_0_1 : (⟨S512x1, .f32⟩ : BufTy).Contents (Elt F) → (⟨S512x6, .f32⟩ : BufTy).Contents (Elt F)),
    StableHlo.binary main_v89 main_v93 main_v94 (Host.divf : (⟨S512x6, .f32⟩ : BufTy).Contents (Elt F) → (⟨S512x6, .f32⟩ : BufTy).Contents (Elt F) → (⟨S512x6, .f32⟩ : BufTy).Contents (Elt F)),
    StableHlo.binary main_v85 main_v94 main_v95 ((fun l r => Host.dotGeneral dot_S512x512_S512x6_S512x6_1_0_0_1_n_n none l r) : (⟨S512x512, .f32⟩ : BufTy).Contents (Elt F) → (⟨S512x6, .f32⟩ : BufTy).Contents (Elt F) → (⟨S512x6, .f32⟩ : BufTy).Contents (Elt F)),
    StableHlo.nullary main_cst_25 (constant S_ .f32 0x3F800000#32),
    StableHlo.unary main_cst_25 main_v96 (broadcastInDim S512 ![] bcast_S_S512 : (⟨S_, .f32⟩ : BufTy).Contents (Elt F) → (⟨S512, .f32⟩ : BufTy).Contents (Elt F)),
    StableHlo.binary main_v87 main_v96 main_v97 (maximumf : (⟨S512, .f32⟩ : BufTy).Contents (Elt F) → (⟨S512, .f32⟩ : BufTy).Contents (Elt F) → (⟨S512, .f32⟩ : BufTy).Contents (Elt F)),
    StableHlo.unary main_v97 main_v98 (broadcastInDim S512x1 ![0] bcast_S512_S512x1_0 : (⟨S512, .f32⟩ : BufTy).Contents (Elt F) → (⟨S512x1, .f32⟩ : BufTy).Contents (Elt F)),
    StableHlo.unary main_v98 main_v99 (broadcastInDim S512x6 ![0, 1] bcast_S512x1_S512x6_0_1 : (⟨S512x1, .f32⟩ : BufTy).Contents (Elt F) → (⟨S512x6, .f32⟩ : BufTy).Contents (Elt F)),
    StableHlo.binary main_v95 main_v99 main_v100 (Host.divf : (⟨S512x6, .f32⟩ : BufTy).Contents (Elt F) → (⟨S512x6, .f32⟩ : BufTy).Contents (Elt F) → (⟨S512x6, .f32⟩ : BufTy).Contents (Elt F)),
    StableHlo.unary main_v100 main_v101 ((extractStridedSlice S512x4 ![0, 0] · slices_S512x6_S512x4_0_0) : (⟨S512x6, .f32⟩ : BufTy).Contents (Elt F) → (⟨S512x4, .f32⟩ : BufTy).Contents (Elt F)) ]
/-- Each touches TensorCore references only (`HostSeg.ofOps` over `StableHlo.tcRefs`, or a subset by `sub_ucRefs`). -/
theorem main_part2_ops0_sub : (main_part2_ops0 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub ..⟩
/-- The last window of `main` (`main_part2`, statements 121 … 136) is the chain of ITS items, each item aligned with the window's
    statements, then `chain_rfl`. -/
theorem main_part2_chain (c : Dev nD) : main_part2 (F := F) c = (Pipeline.chain
  [ StableHlo.seq main_part2_ops0 ] : Prog (TpuEff nD τ sig (Elt F) (HostLoop.Sig (Pipeline.Sig Λ₀ (Fin 0) fun p => (pcfgs (F := F) p).Adm) 1) .tc) PUnit) := by
  rewrite [StableHlo.chain_seq_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    HostLoop.enter 0,
    StableHlo.seq main_part0_ops1,
    StableHlo.seq main_part0_ops2,
    StableHlo.seq main_part0_ops3,
    StableHlo.seq main_part1_ops0,
    StableHlo.seq main_part1_ops1,
    StableHlo.seq main_part1_ops2,
    StableHlo.seq main_part1_ops3,
    StableHlo.seq main_part2_ops0 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (HostLoop.Sig (Pipeline.Sig Λ₀ (Fin 0) fun p => (pcfgs (F := F) p).Adm) 1)) :=
  [ .ops [main_part0_ops0],
    .prog (HostLoop.enter 0),
    .ops [main_part0_ops1],
    .ops [main_part0_ops2],
    .ops [main_part0_ops3],
    .ops [main_part1_ops0],
    .ops [main_part1_ops1],
    .ops [main_part1_ops2],
    .ops [main_part1_ops3, main_part2_ops0] ]

/-- The windows' item list is `main_groups` with each stretch cut into its window pieces (`StableHlo.Group.cut`): the two
    lists are the same, by `chain_rfl`. -/
theorem main_chain_cut (c : Dev nD) : (Pipeline.chain
  [ StableHlo.seq main_part0_ops0,
    HostLoop.enter 0,
    StableHlo.seq main_part0_ops1,
    StableHlo.seq main_part0_ops2,
    StableHlo.seq main_part0_ops3,
    StableHlo.seq main_part1_ops0,
    StableHlo.seq main_part1_ops1,
    StableHlo.seq main_part1_ops2,
    StableHlo.seq main_part1_ops3,
    StableHlo.seq main_part2_ops0 ] : Prog (TpuEff nD τ sig (Elt F) (HostLoop.Sig (Pipeline.Sig Λ₀ (Fin 0) fun p => (pcfgs (F := F) p).Adm) 1) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7 ] : Prog (TpuEff nD τ sig (Elt F) (HostLoop.Sig (Pipeline.Sig Λ₀ (Fin 0) fun p => (pcfgs (F := F) p).Adm) 1) .tc) PUnit) := by
  chain_rfl

/-- `main` is the chain of its items (`Pipeline.chain`): operation stretches, regions, loops and branches in
    order, a module-local function called from it a stretch of its own. Assembled from its 3 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7 ] : Prog (TpuEff nD τ sig (Elt F) (HostLoop.Sig (Pipeline.Sig Λ₀ (Fin 0) fun p => (pcfgs (F := F) p).Adm) 1) .tc) PUnit) :=
  (main_chain_windows (F := F) c).trans <| (main_chain_cut (F := F) c).trans <|
    (StableHlo.chain_cut_eq_whole (main_groups (F := F) c)).trans (main_chain_whole (F := F) c)

-- no `main_segs` (the loop-free kit's `Seg.run` equation) for this @main: it has a host loop; a certificate takes `main_chain` (Lib/Pipeline/RegionsLoop.lean)

/-- 17 host operations of host loop 0's body region, in order. -/
abbrev while0Ops0 : List (HloOp τ sig (Elt F)) :=
  [ StableHlo.binary main_v3_0 main_v3_0 main_while0b_v102 (mulf : (⟨S32768x6, .f32⟩ : BufTy).Contents (Elt F) → (⟨S32768x6, .f32⟩ : BufTy).Contents (Elt F) → (⟨S32768x6, .f32⟩ : BufTy).Contents (Elt F)),
    StableHlo.nullary main_while0b_cst_28 (constant S_ .f32 0x00000000#32),
    StableHlo.binary main_while0b_v102 main_while0b_cst_28 main_while0b_v103 ((fun x v => Host.reduceAdd x v reducesTo_S32768x6_S32768_d1 h_S_) : (⟨S32768x6, .f32⟩ : BufTy).Contents (Elt F) → (⟨S_, .f32⟩ : BufTy).Contents (Elt F) → (⟨S32768, .f32⟩ : BufTy).Contents (Elt F)),
    StableHlo.unary main_while0b_v103 main_while0b_v104 (broadcastInDim S32768x1 ![0] bcast_S32768_S32768x1_0 : (⟨S32768, .f32⟩ : BufTy).Contents (Elt F) → (⟨S32768x1, .f32⟩ : BufTy).Contents (Elt F)),
    StableHlo.unary main_v3_2 main_while0b_v105 ((transpose S6x512 [1, 0] · transposes_S512x6_S6x512_1_0) : (⟨S512x6, .f32⟩ : BufTy).Contents (Elt F) → (⟨S6x512, .f32⟩ : BufTy).Contents (Elt F)),
    StableHlo.binary main_v3_0 main_while0b_v105 main_while0b_v106 ((fun l r => Host.dotGeneral dot_S32768x6_S6x512_S32768x512_1_0_0_1_n_n none l r) : (⟨S32768x6, .f32⟩ : BufTy).Contents (Elt F) → (⟨S6x512, .f32⟩ : BufTy).Contents (Elt F) → (⟨S32768x512, .f32⟩ : BufTy).Contents (Elt F)),
    StableHlo.nullary main_while0b_cst_29 (constant S_ .f32 0x40000000#32),
    StableHlo.unary main_while0b_cst_29 main_while0b_v107 (broadcastInDim S32768x512 ![] bcast_S_S32768x512 : (⟨S_, .f32⟩ : BufTy).Contents (Elt F) → (⟨S32768x512, .f32⟩ : BufTy).Contents (Elt F)),
    StableHlo.binary main_while0b_v107 main_while0b_v106 main_while0b_v108 (mulf : (⟨S32768x512, .f32⟩ : BufTy).Contents (Elt F) → (⟨S32768x512, .f32⟩ : BufTy).Contents (Elt F) → (⟨S32768x512, .f32⟩ : BufTy).Contents (Elt F)),
    StableHlo.unary main_while0b_v104 main_while0b_v109 (broadcastInDim S32768x512 ![0, 1] bcast_S32768x1_S32768x512_0_1 : (⟨S32768x1, .f32⟩ : BufTy).Contents (Elt F) → (⟨S32768x512, .f32⟩ : BufTy).Contents (Elt F)),
    StableHlo.binary main_while0b_v109 main_while0b_v108 main_while0b_v110 (subf : (⟨S32768x512, .f32⟩ : BufTy).Contents (Elt F) → (⟨S32768x512, .f32⟩ : BufTy).Contents (Elt F) → (⟨S32768x512, .f32⟩ : BufTy).Contents (Elt F)),
    StableHlo.binary main_v3_2 main_v3_2 main_while0b_v111 (mulf : (⟨S512x6, .f32⟩ : BufTy).Contents (Elt F) → (⟨S512x6, .f32⟩ : BufTy).Contents (Elt F) → (⟨S512x6, .f32⟩ : BufTy).Contents (Elt F)),
    StableHlo.nullary main_while0b_cst_30 (constant S_ .f32 0x00000000#32),
    StableHlo.binary main_while0b_v111 main_while0b_cst_30 main_while0b_v112 ((fun x v => Host.reduceAdd x v reducesTo_S512x6_S512_d1 h_S_) : (⟨S512x6, .f32⟩ : BufTy).Contents (Elt F) → (⟨S_, .f32⟩ : BufTy).Contents (Elt F) → (⟨S512, .f32⟩ : BufTy).Contents (Elt F)),
    StableHlo.unary main_while0b_v112 main_while0b_v113 (broadcastInDim S1x512 ![1] bcast_S512_S1x512_1 : (⟨S512, .f32⟩ : BufTy).Contents (Elt F) → (⟨S1x512, .f32⟩ : BufTy).Contents (Elt F)),
    StableHlo.unary main_while0b_v113 main_while0b_v114 (broadcastInDim S32768x512 ![0, 1] bcast_S1x512_S32768x512_0_1 : (⟨S1x512, .f32⟩ : BufTy).Contents (Elt F) → (⟨S32768x512, .f32⟩ : BufTy).Contents (Elt F)),
    StableHlo.binary main_while0b_v110 main_while0b_v114 main_while0b_v115 (addf : (⟨S32768x512, .f32⟩ : BufTy).Contents (Elt F) → (⟨S32768x512, .f32⟩ : BufTy).Contents (Elt F) → (⟨S32768x512, .f32⟩ : BufTy).Contents (Elt F)) ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub ..⟩
/-- 5 host operations of @argmin (main_while0b_call0), in order. -/
abbrev while0Ops0_1 : List (HloOp τ sig (Elt F)) :=
  [ StableHlo.TRef.nullary (.of main_while0b_call0_v0 : StableHlo.TRef sig ⟨S32768x512, .i32⟩) (iotaInDim S32768x512 32 1),
    StableHlo.TRef.nullary (.of main_while0b_call0_cst : StableHlo.TRef sig ⟨S_, .f32⟩) (constant S_ .f32 0x7F800000#32),
    StableHlo.TRef.nullary (.of main_while0b_call0_c : StableHlo.TRef sig ⟨S_, .i32⟩) (constantI S_ 32 0#32),
    StableHlo.TRef.quaternary (.of main_while0b_v115 : StableHlo.TRef sig ⟨S32768x512, .f32⟩) (.of main_while0b_call0_v0 : StableHlo.TRef sig ⟨S32768x512, .i32⟩) (.of main_while0b_call0_cst : StableHlo.TRef sig ⟨S_, .f32⟩) (.of main_while0b_call0_c : StableHlo.TRef sig ⟨S_, .i32⟩) (.of main_while0b_call0_v1_0 : StableHlo.TRef sig ⟨S32768, .f32⟩) (fun x y u v j => (Host.argReduce reducer_argmin_f32_i32 x y u v reducesTo_S32768x512_S32768_d1 h_S_ j).1),
    StableHlo.TRef.quaternary (.of main_while0b_v115 : StableHlo.TRef sig ⟨S32768x512, .f32⟩) (.of main_while0b_call0_v0 : StableHlo.TRef sig ⟨S32768x512, .i32⟩) (.of main_while0b_call0_cst : StableHlo.TRef sig ⟨S_, .f32⟩) (.of main_while0b_call0_c : StableHlo.TRef sig ⟨S_, .i32⟩) (.of main_while0b_v116 : StableHlo.TRef sig ⟨S32768, .i32⟩) (fun x y u v j => (Host.argReduce reducer_argmin_f32_i32 x y u v reducesTo_S32768x512_S32768_d1 h_S_ j).2) ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 34 host operations of host loop 0's body region, in order. -/
abbrev while0Ops0_2 : List (HloOp τ sig (Elt F)) :=
  ( StableHlo.nullary main_while0b_cst_31 (constant S_ .f32 0x00000000#32)
  :: StableHlo.unary main_while0b_cst_31 main_while0b_v117 (broadcastInDim S512x6 ![] bcast_S_S512x6 : (⟨S_, .f32⟩ : BufTy).Contents (Elt F) → (⟨S512x6, .f32⟩ : BufTy).Contents (Elt F))
  :: StableHlo.nullary main_while0b_c_32 (constantI S_ 32 0#32)
  :: StableHlo.unary main_while0b_c_32 main_while0b_v118 (broadcastInDim S32768 ![] bcast_S_S32768 : (⟨S_, .i32⟩ : BufTy).Contents (Elt F) → (⟨S32768, .i32⟩ : BufTy).Contents (Elt F))
  :: StableHlo.binary main_while0b_v116 main_while0b_v118 main_while0b_v119 (cmpi .slt : (⟨S32768, .i32⟩ : BufTy).Contents (Elt F) → (⟨S32768, .i32⟩ : BufTy).Contents (Elt F) → (⟨S32768, .i1⟩ : BufTy).Contents (Elt F))
  :: StableHlo.nullary main_while0b_c_33 (constantI S_ 32 512#32)
  :: StableHlo.unary main_while0b_c_33 main_while0b_v120 (broadcastInDim S32768 ![] bcast_S_S32768 : (⟨S_, .i32⟩ : BufTy).Contents (Elt F) → (⟨S32768, .i32⟩ : BufTy).Contents (Elt F))
  :: StableHlo.binary main_while0b_v116 main_while0b_v120 main_while0b_v121 (addi : (⟨S32768, .i32⟩ : BufTy).Contents (Elt F) → (⟨S32768, .i32⟩ : BufTy).Contents (Elt F) → (⟨S32768, .i32⟩ : BufTy).Contents (Elt F))
  :: StableHlo.ternary main_while0b_v119 main_while0b_v121 main_while0b_v116 main_while0b_v122 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_while0b_v122 main_while0b_v123 (broadcastInDim S32768x1 ![0] bcast_S32768_S32768x1_0 : (⟨S32768, .i32⟩ : BufTy).Contents (Elt F) → (⟨S32768x1, .i32⟩ : BufTy).Contents (Elt F))
  :: StableHlo.ternary main_while0b_v117 main_while0b_v123 main_v3_0 main_while0b_v124 ((fun x i u => Host.scatterAdd scatter_S512x6_S32768x1_S32768x6_1_0_0_1 x i u) : (⟨S512x6, .f32⟩ : BufTy).Contents (Elt F) → (⟨S32768x1, .i32⟩ : BufTy).Contents (Elt F) → (⟨S32768x6, .f32⟩ : BufTy).Contents (Elt F) → (⟨S512x6, .f32⟩ : BufTy).Contents (Elt F))
  :: StableHlo.nullary main_while0b_cst_34 (constant S_ .f32 0x00000000#32)
  :: StableHlo.unary main_while0b_cst_34 main_while0b_v125 (broadcastInDim S512 ![] bcast_S_S512 : (⟨S_, .f32⟩ : BufTy).Contents (Elt F) → (⟨S512, .f32⟩ : BufTy).Contents (Elt F))
  :: StableHlo.nullary main_while0b_c_35 (constantI S_ 32 0#32)
  :: StableHlo.unary main_while0b_c_35 main_while0b_v126 (broadcastInDim S32768 ![] bcast_S_S32768 : (⟨S_, .i32⟩ : BufTy).Contents (Elt F) → (⟨S32768, .i32⟩ : BufTy).Contents (Elt F))
  :: StableHlo.binary main_while0b_v116 main_while0b_v126 main_while0b_v127 (cmpi .slt : (⟨S32768, .i32⟩ : BufTy).Contents (Elt F) → (⟨S32768, .i32⟩ : BufTy).Contents (Elt F) → (⟨S32768, .i1⟩ : BufTy).Contents (Elt F))
  :: StableHlo.nullary main_while0b_c_36 (constantI S_ 32 512#32)
  :: StableHlo.unary main_while0b_c_36 main_while0b_v128 (broadcastInDim S32768 ![] bcast_S_S32768 : (⟨S_, .i32⟩ : BufTy).Contents (Elt F) → (⟨S32768, .i32⟩ : BufTy).Contents (Elt F))
  :: StableHlo.binary main_while0b_v116 main_while0b_v128 main_while0b_v129 (addi : (⟨S32768, .i32⟩ : BufTy).Contents (Elt F) → (⟨S32768, .i32⟩ : BufTy).Contents (Elt F) → (⟨S32768, .i32⟩ : BufTy).Contents (Elt F))
  :: StableHlo.ternary main_while0b_v127 main_while0b_v129 main_while0b_v116 main_while0b_v130 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_while0b_v130 main_while0b_v131 (broadcastInDim S32768x1 ![0] bcast_S32768_S32768x1_0 : (⟨S32768, .i32⟩ : BufTy).Contents (Elt F) → (⟨S32768x1, .i32⟩ : BufTy).Contents (Elt F))
  :: StableHlo.nullary main_while0b_cst_37 (constant S_ .f32 0x3F800000#32)
  :: StableHlo.unary main_while0b_cst_37 main_while0b_v132 (broadcastInDim S32768 ![] bcast_S_S32768 : (⟨S_, .f32⟩ : BufTy).Contents (Elt F) → (⟨S32768, .f32⟩ : BufTy).Contents (Elt F))
  :: StableHlo.ternary main_while0b_v125 main_while0b_v131 main_while0b_v132 main_while0b_v133 ((fun x i u => Host.scatterAdd scatter_S512_S32768x1_S32768_n_0_0_1 x i u) : (⟨S512, .f32⟩ : BufTy).Contents (Elt F) → (⟨S32768x1, .i32⟩ : BufTy).Contents (Elt F) → (⟨S32768, .f32⟩ : BufTy).Contents (Elt F) → (⟨S512, .f32⟩ : BufTy).Contents (Elt F))
  :: StableHlo.nullary main_while0b_cst_38 (constant S_ .f32 0x3F800000#32)
  :: StableHlo.unary main_while0b_cst_38 main_while0b_v134 (broadcastInDim S512 ![] bcast_S_S512 : (⟨S_, .f32⟩ : BufTy).Contents (Elt F) → (⟨S512, .f32⟩ : BufTy).Contents (Elt F))
  :: StableHlo.binary main_while0b_v133 main_while0b_v134 main_while0b_v135 (maximumf : (⟨S512, .f32⟩ : BufTy).Contents (Elt F) → (⟨S512, .f32⟩ : BufTy).Contents (Elt F) → (⟨S512, .f32⟩ : BufTy).Contents (Elt F))
  :: StableHlo.unary main_while0b_v135 main_while0b_v136 (broadcastInDim S512x1 ![0] bcast_S512_S512x1_0 : (⟨S512, .f32⟩ : BufTy).Contents (Elt F) → (⟨S512x1, .f32⟩ : BufTy).Contents (Elt F))
  :: StableHlo.unary main_while0b_v136 main_while0b_v137 (broadcastInDim S512x6 ![0, 1] bcast_S512x1_S512x6_0_1 : (⟨S512x1, .f32⟩ : BufTy).Contents (Elt F) → (⟨S512x6, .f32⟩ : BufTy).Contents (Elt F))
  :: StableHlo.binary main_while0b_v124 main_while0b_v137 main_while0b_v138 (Host.divf : (⟨S512x6, .f32⟩ : BufTy).Contents (Elt F) → (⟨S512x6, .f32⟩ : BufTy).Contents (Elt F) → (⟨S512x6, .f32⟩ : BufTy).Contents (Elt F))
  :: StableHlo.unary main_while0b_v133 main_while0b_v139 (broadcastInDim S512x1 ![0] bcast_S512_S512x1_0 : (⟨S512, .f32⟩ : BufTy).Contents (Elt F) → (⟨S512x1, .f32⟩ : BufTy).Contents (Elt F))
  :: StableHlo.nullary main_while0b_cst_39 (constant S_ .f32 0x00000000#32)
  :: StableHlo.unary main_while0b_cst_39 main_while0b_v140 (broadcastInDim S512x1 ![] bcast_S_S512x1 : (⟨S_, .f32⟩ : BufTy).Contents (Elt F) → (⟨S512x1, .f32⟩ : BufTy).Contents (Elt F))
  :: StableHlo.binary main_while0b_v139 main_while0b_v140 main_while0b_v141 (cmpf .ogt : (⟨S512x1, .f32⟩ : BufTy).Contents (Elt F) → (⟨S512x1, .f32⟩ : BufTy).Contents (Elt F) → (⟨S512x1, .i1⟩ : BufTy).Contents (Elt F))
  :: [] )
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub ..⟩
/-- 2 host operations of @_where (main_while0b_call1), in order. -/
abbrev while0Ops0_3 : List (HloOp τ sig (Elt F)) :=
  [ StableHlo.TRef.unary (.of main_while0b_v141 : StableHlo.TRef sig ⟨S512x1, .i1⟩) (.of main_while0b_call1_v0 : StableHlo.TRef sig ⟨S512x6, .i1⟩) (broadcastInDim S512x6 ![0, 1] bcast_S512x1_S512x6_0_1),
    StableHlo.TRef.ternary (.of main_while0b_call1_v0 : StableHlo.TRef sig ⟨S512x6, .i1⟩) (.of main_while0b_v138 : StableHlo.TRef sig ⟨S512x6, .f32⟩) (.of main_v3_2 : StableHlo.TRef sig ⟨S512x6, .f32⟩) (.of main_while0b_v142 : StableHlo.TRef sig ⟨S512x6, .f32⟩) select ]
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.unary_bufs_sub .., StableHlo.ternary_bufs_sub ..⟩
/-- 4 host operations of host loop 0's body region, in order. -/
abbrev while0Ops0_4 : List (HloOp τ sig (Elt F)) :=
  [ StableHlo.nullary main_while0b_c_40 (constantI S_ 32 1#32),
    StableHlo.binary main_v3_1 main_while0b_c_40 main_while0b_v143 (addi : (⟨S_, .i32⟩ : BufTy).Contents (Elt F) → (⟨S_, .i32⟩ : BufTy).Contents (Elt F) → (⟨S_, .i32⟩ : BufTy).Contents (Elt F)),
    StableHlo.unary main_while0b_v143 main_v3_1 id,
    StableHlo.unary main_while0b_v142 main_v3_2 id ]
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons]
  chain_rfl

end Cert.ReferenceIdeal.Gen

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_v0, main_v1, main_v2, main_c, main_v3_0, main_v3_1, main_v3_2]
theorem hostOps0_writes : (hostOps0 : List (HloOp τ sig (Elt F))).Forall fun op => op.writes ⊆ (hostOps0_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_v102, main_while0b_cst_28, main_while0b_v103, main_while0b_v104, main_while0b_v105, main_while0b_v106, main_while0b_cst_29, main_while0b_v107, main_while0b_v108, main_while0b_v109, main_while0b_v110, main_while0b_v111, main_while0b_cst_30, main_while0b_v112, main_while0b_v113, main_while0b_v114, main_while0b_v115]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_call0_v0, main_while0b_call0_cst, main_while0b_call0_c, main_while0b_call0_v1_0, main_while0b_v116]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_cst_31, main_while0b_v117, main_while0b_c_32, main_while0b_v118, main_while0b_v119, main_while0b_c_33, main_while0b_v120, main_while0b_v121, main_while0b_v122, main_while0b_v123, main_while0b_v124, main_while0b_cst_34, main_while0b_v125, main_while0b_c_35, main_while0b_v126, main_while0b_v127, main_while0b_c_36, main_while0b_v128, main_while0b_v129, main_while0b_v130, main_while0b_v131, main_while0b_cst_37, main_while0b_v132, main_while0b_v133, main_while0b_cst_38, main_while0b_v134, main_while0b_v135, main_while0b_v136, main_while0b_v137, main_while0b_v138, main_while0b_v139, main_while0b_cst_39, main_while0b_v140, main_while0b_v141]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_call1_v0, main_while0b_v142]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_c_40, main_while0b_v143, main_v3_1, main_v3_2]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- No operation of `hostOps0_2` allocates a buffer. -/
theorem hostOps0_2_fresh : (hostOps0_2 : List (HloOp τ sig (Elt F))).Forall fun op => op.fresh = ∅ :=
  StableHlo.forall_fresh_of_map rfl
/-- No operation of `hostOps0_3` allocates a buffer. -/
theorem hostOps0_3_fresh : (hostOps0_3 : List (HloOp τ sig (Elt F))).Forall fun op => op.fresh = ∅ :=
  StableHlo.forall_fresh_of_map rfl
/-- No operation of `hostOps0_4` allocates a buffer. -/
theorem hostOps0_4_fresh : (hostOps0_4 : List (HloOp τ sig (Elt F))).Forall fun op => op.fresh = ∅ :=
  StableHlo.forall_fresh_of_map rfl
/-- No operation of `hostOps0_5` allocates a buffer. -/
theorem hostOps0_5_fresh : (hostOps0_5 : List (HloOp τ sig (Elt F))).Forall fun op => op.fresh = ∅ :=
  StableHlo.forall_fresh_of_map rfl
/-- No operation of `hostOps0_6` allocates a buffer. -/
theorem hostOps0_6_fresh : (hostOps0_6 : List (HloOp τ sig (Elt F))).Forall fun op => op.fresh = ∅ :=
  StableHlo.forall_fresh_of_map rfl
/-- No operation of `hostOps0_7` allocates a buffer. -/
theorem hostOps0_7_fresh : (hostOps0_7 : List (HloOp τ sig (Elt F))).Forall fun op => op.fresh = ∅ :=
  StableHlo.forall_fresh_of_map rfl

/-- The condition region's two operations: the bound, and the trip counter compared with it. -/
abbrev condOps : List (HloOp τ sig (Elt F)) :=
  [ StableHlo.nullary main_while0c_c_28 (constantI S_ 32 6#32),
    StableHlo.binary main_v3_1 main_while0c_c_28 main_while0c_v102 (cmpi .slt) ]

/-- @main's stretches before the loop, the loop body's, and @main's after the loop. -/
abbrev preI : List (List (HloOp τ sig (Elt F))) := [hostOps0]
abbrev bodyI : List (List (HloOp τ sig (Elt F))) := [while0Ops0, while0Ops0_1, while0Ops0_2, while0Ops0_3, while0Ops0_4]
abbrev postI : List (List (HloOp τ sig (Elt F))) := [hostOps0_1, hostOps0_2, hostOps0_3, hostOps0_4, hostOps0_5, hostOps0_6, hostOps0_7]

theorem hpre : Plain (preI (F := F)) := .cons hostOps0_sub (hf := List.forall_iff_forall_mem.mp hostOps0_fresh) (.nil)
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.nil)))))
theorem hpost : Plain (postI (F := F)) := .cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.cons hostOps0_5_sub (hf := List.forall_iff_forall_mem.mp hostOps0_5_fresh) (.cons hostOps0_6_sub (hf := List.forall_iff_forall_mem.mp hostOps0_6_fresh) (.cons hostOps0_7_sub (hf := List.forall_iff_forall_mem.mp hostOps0_7_fresh) (.nil)))))))

/-- The reference each operation of `condOps` writes, in order. -/
abbrev condOps_W : List (Ref sig .tc) := [main_while0c_c_28, main_while0c_v102]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v3_1`) is written by one stretch of the body, `while0Ops0_4`: not by the condition, nor by the
    body's other stretches. -/
theorem ctr_cond (V : Valuation τ sig (Elt F)) : after condOps V (Proc.devRef .tc main_v3_1) = V (Proc.devRef .tc main_v3_1) :=
  after_of_writes_sub condOps V condOps_writes (by decide +kernel)
theorem ctr_while0Ops0 (V : Valuation τ sig (Elt F)) : after while0Ops0 V (Proc.devRef .tc main_v3_1) = V (Proc.devRef .tc main_v3_1) :=
  after_of_writes_sub while0Ops0 V while0Ops0_writes (by decide +kernel)
theorem ctr_while0Ops0_1 (V : Valuation τ sig (Elt F)) : after while0Ops0_1 V (Proc.devRef .tc main_v3_1) = V (Proc.devRef .tc main_v3_1) :=
  after_of_writes_sub while0Ops0_1 V while0Ops0_1_writes (by decide +kernel)
theorem ctr_while0Ops0_2 (V : Valuation τ sig (Elt F)) : after while0Ops0_2 V (Proc.devRef .tc main_v3_1) = V (Proc.devRef .tc main_v3_1) :=
  after_of_writes_sub while0Ops0_2 V while0Ops0_2_writes (by decide +kernel)
theorem ctr_while0Ops0_3 (V : Valuation τ sig (Elt F)) : after while0Ops0_3 V (Proc.devRef .tc main_v3_1) = V (Proc.devRef .tc main_v3_1) :=
  after_of_writes_sub while0Ops0_3 V while0Ops0_3_writes (by decide +kernel)

set_option maxRecDepth 100000 in
/-- `while0Ops0_4` leaves the counter one step on. -/
theorem ctr_step (X : Valuation τ sig (Elt F)) :
    after while0Ops0_4 X (Proc.devRef .tc main_v3_1) = addi (X (Proc.devRef .tc main_v3_1)) (constantI S_ 32 1#32) := by
  after_results
  rfl

/-- The counter is the loop's lower bound at the loop's entry: its last writer before the loop read back. -/
theorem ctr_entry (c : Dev nD) : entryContents preI m c (Proc.devRef .tc main_v3_1) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v3_1) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_3, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 6 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v3_1 HostLoop.idx0)
        (HloOp.result _ (atK m k c) main_while0c_c_28 HostLoop.idx0) = 1#1) (k < 6)
    rw [nullary_result_ne _ _ _ _ (by decide), nullary_result, hctr]
    exact Scf.cmpi_slt_iv_ub_iff (lb := 0#32) (ub := 6#32) (st := 1#32) (by decide) (show k ≤ Scf.trips 0#32 6#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 6 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 6 m ρ (cond_spec m)

end Cert.ReferenceIdeal.Value

end
-- ==== Proof.RefFun.lean ====
/- The reference's stages as functions of arrays: one clustering step, and the hypergraph stage after the last one. -/
module

public import proofs.«01_k».proof.Proof.RefOps

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo

variable {F : FTy → Type} [FloatOps F]

/-! ## The reference's stages as functions of arrays -/

/-- Squared distances of the points to the centres. -/
def sqd (p : FVec F S32768x6 .f32) (c : FVec F S512x6 .f32) : FVec F S32768x512 .f32 :=
  addf (subf (broadcastInDim S32768x512 ![0, 1] bcast_S32768x1_S32768x512_0_1 (broadcastInDim S32768x1 ![0] bcast_S32768_S32768x1_0 (Host.reduceAdd (mulf p p) (constant S_ .f32 0x00000000#32) reducesTo_S32768x6_S32768_d1 h_S_)))
      (mulf (broadcastInDim S32768x512 ![] bcast_S_S32768x512 (constant S_ .f32 0x40000000#32)) (Host.dotGeneral dot_S32768x6_S6x512_S32768x512_1_0_0_1_n_n none p (transpose S6x512 [1, 0] c transposes_S512x6_S6x512_1_0))))
    (broadcastInDim S32768x512 ![0, 1] bcast_S1x512_S32768x512_0_1 (broadcastInDim S1x512 ![1] bcast_S512_S1x512_1 (Host.reduceAdd (mulf c c) (constant S_ .f32 0x00000000#32) reducesTo_S512x6_S512_d1 h_S_)))

/-- Each point's nearest centre. -/
def lab (d : FVec F S32768x512 .f32) : IVec S32768 32 :=
  fun j => (Host.argReduce reducer_argmin_f32_i32 d (iotaInDim S32768x512 32 1) (constant S_ .f32 0x7F800000#32) (constantI S_ 32 0#32) reducesTo_S32768x512_S32768_d1 h_S_ j).2

/-- A label as a scatter index. -/
def wrapL (l : IVec S32768 32) : IVec S32768x1 32 :=
  broadcastInDim S32768x1 ![0] bcast_S32768_S32768x1_0 (select (cmpi .slt l (broadcastInDim S32768 ![] bcast_S_S32768 (constantI S_ 32 0#32)))
    (addi l (broadcastInDim S32768 ![] bcast_S_S32768 (constantI S_ 32 512#32))) l)

/-- The sum of each cluster's points. -/
def sumsR (l : IVec S32768 32) (p : FVec F S32768x6 .f32) : FVec F S512x6 .f32 :=
  Host.scatterAdd scatter_S512x6_S32768x1_S32768x6_1_0_0_1 (broadcastInDim S512x6 ![] bcast_S_S512x6 (constant S_ .f32 0x00000000#32)) (wrapL l) p

/-- The number of each cluster's points. -/
def cntR (l : IVec S32768 32) : FVec F S512 .f32 :=
  Host.scatterAdd scatter_S512_S32768x1_S32768_n_0_0_1 (broadcastInDim S512 ![] bcast_S_S512 (constant S_ .f32 0x00000000#32)) (wrapL l)
    (broadcastInDim S32768 ![] bcast_S_S32768 (constant S_ .f32 0x3F800000#32))

/-- A column of divisors, each at least one, along the rows. -/
def atLeastOne (n : FVec F S512 .f32) : FVec F S512x6 .f32 :=
  broadcastInDim S512x6 ![0, 1] bcast_S512x1_S512x6_0_1 (broadcastInDim S512x1 ![0] bcast_S512_S512x1_0
    (maximumf n (broadcastInDim S512 ![] bcast_S_S512 (constant S_ .f32 0x3F800000#32))))

/-- The mean of each cluster. -/
def meansR (l : IVec S32768 32) (p : FVec F S32768x6 .f32) : FVec F S512x6 .f32 :=
  Host.divf (sumsR l p) (atLeastOne (cntR l))

/-- Whether a cluster has a point. -/
def occR (n : FVec F S512 .f32) : IVec S512x1 1 :=
  cmpf .ogt (broadcastInDim S512x1 ![0] bcast_S512_S512x1_0 n) (broadcastInDim S512x1 ![] bcast_S_S512x1 (constant S_ .f32 0x00000000#32))

/-- The new centres: a cluster's mean, the old centre where it has no point. -/
def keepR (o : IVec S512x1 1) (new old : FVec F S512x6 .f32) : FVec F S512x6 .f32 :=
  select (broadcastInDim S512x6 ![0, 1] bcast_S512x1_S512x6_0_1 o) new old

/-- One clustering step. -/
def stepR (p : FVec F S32768x6 .f32) (c : FVec F S512x6 .f32) : FVec F S512x6 .f32 :=
  keepR (occR (cntR (lab (sqd p c)) : FVec F S512 .f32)) (meansR (lab (sqd p c)) p) c

/-- Squared distances between the centres. -/
def sqdC (c : FVec F S512x6 .f32) : FVec F S512x512 .f32 :=
  addf (subf (broadcastInDim S512x512 ![0, 1] bcast_S512x1_S512x512_0_1 (broadcastInDim S512x1 ![0] bcast_S512_S512x1_0 (Host.reduceAdd (mulf c c) (constant S_ .f32 0x00000000#32) reducesTo_S512x6_S512_d1 h_S_)))
      (mulf (broadcastInDim S512x512 ![] bcast_S_S512x512 (constant S_ .f32 0x40000000#32)) (Host.dotGeneral dot_S512x6_S6x512_S512x512_1_0_0_1_n_n none c (transpose S6x512 [1, 0] c transposes_S512x6_S6x512_1_0))))
    (broadcastInDim S512x512 ![0, 1] bcast_S1x512_S512x512_0_1 (broadcastInDim S1x512 ![1] bcast_S512_S1x512_1 (Host.reduceAdd (mulf c c) (constant S_ .f32 0x00000000#32) reducesTo_S512x6_S512_d1 h_S_)))

/-- Each centre's sixteen nearest centres. -/
def nbrR (d : FVec F S512x512 .f32) : IVec S512x16 32 :=
  (Host.topK S512x16 1 (FloatOps.cmpfTotal .gt) (Host.negf d) sliceFits_S512x512_S512x16).2

/-- A list of positions with the negative ones counted from the end. -/
def wrap8 (r : IVec S8192 32) : IVec S8192 32 :=
  select (cmpi .slt r (broadcastInDim S8192 ![] bcast_S_S8192 (constantI S_ 32 0#32))) (addi r (broadcastInDim S8192 ![] bcast_S_S8192 (constantI S_ 32 512#32))) r

/-- The neighbour positions as one list. -/
def rowsR (nb : IVec S512x16 32) : IVec S8192 32 := shapeCast S8192 nb shapeCasts_S512x16_S8192

/-- The hyperedge of each entry of that list. -/
def colsR : IVec S8192 32 := shapeCast S8192 (broadcastInDim S512x16 ![0] bcast_S512_S512x16_0 (iotaInDim S512 32 0)) shapeCasts_S512x16_S8192

/-- The incidence matrix before isolated vertices are joined. -/
def incR (r c : IVec S8192 32) : FVec F S512x512 .f32 :=
  Host.scatter scatter_S512x512_S8192x2_S8192_n_01_01_1 (fun _ b => b) (broadcastInDim S512x512 ![] bcast_S_S512x512 (constant S_ .f32 0x00000000#32))
    (concatenate S8192x2 1 [⟨S8192x1, broadcastInDim S8192x1 ![0] bcast_S8192_S8192x1_0 (wrap8 r)⟩, ⟨S8192x1, broadcastInDim S8192x1 ![0] bcast_S8192_S8192x1_0 (wrap8 c)⟩] concatenates_S8192x1_S8192x1_S8192x2_d1)
    (broadcastInDim S8192 ![] bcast_S_S8192 (constant S_ .f32 0x3F800000#32))

/-- One where a vertex lies in no hyperedge. -/
def isoR (H : FVec F S512x512 .f32) : FVec F S512 .f32 :=
  uitofp .f32 (cmpf .oeq (Host.reduceAdd H (constant S_ .f32 0x00000000#32) reducesTo_S512x512_S512_d1 h_S_) (broadcastInDim S512 ![] bcast_S_S512 (constant S_ .f32 0x00000000#32)))

/-- A vector on the diagonal. -/
def diagR (v : FVec F S512 .f32) : FVec F S512x512 .f32 :=
  select (cmpi .eq (addi (iotaInDim S512x512 32 0) (broadcastInDim S512x512 ![] bcast_S_S512x512 (constantI S_ 32 0#32))) (iotaInDim S512x512 32 1))
    (broadcastInDim S512x512 ![0, 1] bcast_S512x1_S512x512_0_1 (broadcastInDim S512x1 ![0] bcast_S512_S512x1_0
      (pad S512 ![0] ![0] ![0] v (constant S_ .f32 0x00000000#32) pads_S512_S512_000 h_S_)))
    (broadcastInDim S512x512 ![] bcast_S_S512x512 (constant S_ .f32 0x00000000#32))

/-- The mean over each hyperedge's vertices. -/
def edgeR (H : FVec F S512x512 .f32) (c : FVec F S512x6 .f32) : FVec F S512x6 .f32 :=
  Host.divf (Host.dotGeneral dot_S512x512_S512x6_S512x6_1_0_0_1_n_n none (transpose S512x512 [1, 0] H transposes_S512x512_S512x512_1_0) c)
    (atLeastOne (Host.reduceAdd H (constant S_ .f32 0x00000000#32) reducesTo_S512x512_S512_d0 h_S_))

/-- The mean over each vertex's hyperedges, the first four channels. -/
def outR (H : FVec F S512x512 .f32) (y : FVec F S512x6 .f32) : FVec F S512x4 .f32 :=
  extractStridedSlice S512x4 ![0, 0] (Host.divf (Host.dotGeneral dot_S512x512_S512x6_S512x6_1_0_0_1_n_n none H y)
    (atLeastOne (Host.reduceAdd H (constant S_ .f32 0x00000000#32) reducesTo_S512x512_S512_d1 h_S_))) slices_S512x6_S512x4_0_0

/-- The whole incidence matrix. -/
def hypR (H : FVec F S512x512 .f32) (g : FVec F S512x512 .f32) : FVec F S512x512 .f32 := addf H g

/-- The hypergraph stage of the reference. -/
def hyperR (c : FVec F S512x6 .f32) : FVec F S512x4 .f32 :=
  let H := hypR (incR (rowsR (nbrR (sqdC c))) colsR) (diagR (isoR (incR (rowsR (nbrR (sqdC c))) colsR : FVec F S512x512 .f32)))
  outR H (edgeR H c)

/-- The points of the input. -/
def ptsR (x : FVec F S2x6x16384 .f32) : FVec F S32768x6 .f32 :=
  shapeCast S32768x6 (transpose S2x16384x6 [0, 2, 1] x transposes_S2x6x16384_S2x16384x6_0_2_1) shapeCasts_S2x16384x6_S32768x6

/-- The first centres. -/
def cent0R (p : FVec F S32768x6 .f32) : FVec F S512x6 .f32 := extractStridedSlice S512x6 ![0, 0] p slices_S32768x6_S512x6_0_0

end Cert.ReferenceIdeal.Value

end
-- ==== Proof.RefTrip.lean ====
/- One trip of the reference's loop carries the centres to the next ones. -/
module

public import proofs.«01_k».proof.Proof.RefFun

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo

variable {F : FTy → Type} [FloatOps F]

/-! ## The stretches of the loop's body -/

variable (V : Valuation τ sig (Elt F))

set_option maxHeartbeats 1700000 in
theorem w0_dist : after while0Ops0 V (Proc.devRef .tc main_while0b_v115) = sqd (V (Proc.devRef .tc main_v3_0)) (V (Proc.devRef .tc main_v3_2)) := by
  unfold sqd
  simp only [while0Ops0]
  after_results_entrywise [cast_eq]

theorem w1_lab : after while0Ops0_1 V (Proc.devRef .tc main_while0b_v116) = lab (V (Proc.devRef .tc main_while0b_v115)) := by
  unfold lab
  simp only [while0Ops0_1]
  after_results_entrywise [cast_eq]

set_option maxHeartbeats 1700000 in
theorem w2_means : after while0Ops0_2 V (Proc.devRef .tc main_while0b_v138) = meansR (V (Proc.devRef .tc main_while0b_v116)) (V (Proc.devRef .tc main_v3_0)) := by
  unfold meansR sumsR atLeastOne cntR wrapL
  simp only [while0Ops0_2]
  after_results_entrywise [cast_eq]

set_option maxHeartbeats 1700000 in
theorem w2_occ : after while0Ops0_2 V (Proc.devRef .tc main_while0b_v141) = occR (cntR (V (Proc.devRef .tc main_while0b_v116)) : FVec F S512 .f32) := by
  unfold occR cntR wrapL
  simp only [while0Ops0_2]
  after_results_entrywise [cast_eq]

theorem w3_keep : after while0Ops0_3 V (Proc.devRef .tc main_while0b_v142) = keepR (V (Proc.devRef .tc main_while0b_v141)) (V (Proc.devRef .tc main_while0b_v138)) (V (Proc.devRef .tc main_v3_2)) := by
  unfold keepR
  simp only [while0Ops0_3]
  after_results_entrywise [cast_eq]

theorem w4_cent : after while0Ops0_4 V (Proc.devRef .tc main_v3_2) = V (Proc.devRef .tc main_while0b_v142) := by
  simp only [while0Ops0_4]
  after_results
  rfl

/-- What the loop's condition and body leave alone. -/
theorem keep_c {r : Ref sig .tc} (h : r ∉ condOps_W) : after condOps V (Proc.devRef .tc r) = V (Proc.devRef .tc r) := after_of_writes_sub condOps V condOps_writes h
theorem keep_w0 {r : Ref sig .tc} (h : r ∉ while0Ops0_W) : after while0Ops0 V (Proc.devRef .tc r) = V (Proc.devRef .tc r) := after_of_writes_sub while0Ops0 V while0Ops0_writes h
theorem keep_w1 {r : Ref sig .tc} (h : r ∉ while0Ops0_1_W) : after while0Ops0_1 V (Proc.devRef .tc r) = V (Proc.devRef .tc r) := after_of_writes_sub while0Ops0_1 V while0Ops0_1_writes h
theorem keep_w2 {r : Ref sig .tc} (h : r ∉ while0Ops0_2_W) : after while0Ops0_2 V (Proc.devRef .tc r) = V (Proc.devRef .tc r) := after_of_writes_sub while0Ops0_2 V while0Ops0_2_writes h
theorem keep_w3 {r : Ref sig .tc} (h : r ∉ while0Ops0_3_W) : after while0Ops0_3 V (Proc.devRef .tc r) = V (Proc.devRef .tc r) := after_of_writes_sub while0Ops0_3 V while0Ops0_3_writes h
theorem keep_w4 {r : Ref sig .tc} (h : r ∉ while0Ops0_4_W) : after while0Ops0_4 V (Proc.devRef .tc r) = V (Proc.devRef .tc r) := after_of_writes_sub while0Ops0_4 V while0Ops0_4_writes h

/-- One trip's new centres. -/
theorem trip_cent : afterL bodyI V (Proc.devRef .tc main_v3_2) = stepR (V (Proc.devRef .tc main_v3_0)) (V (Proc.devRef .tc main_v3_2)) := by
  simp only [afterL_cons, afterL_nil]
  rw [w4_cent, w3_keep, w2_occ, w2_means, keep_w2 _ (r := main_v3_2) (by decide +kernel), w1_lab, keep_w1 _ (r := main_v3_2) (by decide +kernel),
    keep_w1 _ (r := main_v3_0) (by decide +kernel), w0_dist, keep_w0 _ (r := main_v3_2) (by decide +kernel), keep_w0 _ (r := main_v3_0) (by decide +kernel)]
  rfl

theorem trip_keep {r : Ref sig .tc} (h0 : r ∉ while0Ops0_W) (h1 : r ∉ while0Ops0_1_W) (h2 : r ∉ while0Ops0_2_W) (h3 : r ∉ while0Ops0_3_W) (h4 : r ∉ while0Ops0_4_W) :
    afterL bodyI V (Proc.devRef .tc r) = V (Proc.devRef .tc r) := by
  simp only [afterL_cons, afterL_nil]
  rw [keep_w4 _ h4, keep_w3 _ h3, keep_w2 _ h2, keep_w1 _ h1, keep_w0 _ h0]

end Cert.ReferenceIdeal.Value

end
-- ==== Proof.RefPost.lean ====
/- The operations after the reference's loop: a seventh clustering step and the hypergraph stage. -/
module

public import proofs.«01_k».proof.Proof.RefFun

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo

variable {F : FTy → Type} [FloatOps F]

/-! ## The stretches after the loop -/

variable (V : Valuation τ sig (Elt F))

abbrev hostOps0_1_W : List (Ref sig .tc) := [main_v4, main_cst, main_v5, main_v6, main_v7, main_v8, main_cst_0, main_v9, main_v10, main_v11, main_v12, main_v13, main_cst_1, main_v14, main_v15, main_v16, main_v17]
theorem hostOps0_1_writes : (hostOps0_1 : List (HloOp τ sig (Elt F))).Forall fun op => op.writes ⊆ (hostOps0_1_W.map (Proc.devRef (τ := τ) .tc)).toFinset :=
  StableHlo.forall_writes_sub_of_map rfl
abbrev hostOps0_2_W : List (Ref sig .tc) := [main_call2_v0, main_call2_cst, main_call2_c, main_call2_v1_0, main_v18]
theorem hostOps0_2_writes : (hostOps0_2 : List (HloOp τ sig (Elt F))).Forall fun op => op.writes ⊆ (hostOps0_2_W.map (Proc.devRef (τ := τ) .tc)).toFinset :=
  StableHlo.forall_writes_sub_of_map rfl
abbrev hostOps0_3_W : List (Ref sig .tc) := [main_cst_2, main_v19, main_c_3, main_v20, main_v21, main_c_4, main_v22, main_v23, main_v24, main_v25, main_v26, main_cst_5, main_v27, main_c_6, main_v28, main_v29, main_c_7, main_v30, main_v31, main_v32, main_v33, main_cst_8, main_v34, main_v35, main_cst_9, main_v36, main_v37, main_v38, main_v39, main_v40, main_v41, main_cst_10, main_v42, main_v43]
theorem hostOps0_3_writes : (hostOps0_3 : List (HloOp τ sig (Elt F))).Forall fun op => op.writes ⊆ (hostOps0_3_W.map (Proc.devRef (τ := τ) .tc)).toFinset :=
  StableHlo.forall_writes_sub_of_map rfl
abbrev hostOps0_4_W : List (Ref sig .tc) := [main_call3_v0, main_v44]
theorem hostOps0_4_writes : (hostOps0_4 : List (HloOp τ sig (Elt F))).Forall fun op => op.writes ⊆ (hostOps0_4_W.map (Proc.devRef (τ := τ) .tc)).toFinset :=
  StableHlo.forall_writes_sub_of_map rfl
abbrev hostOps0_5_W : List (Ref sig .tc) := [main_v45, main_cst_11, main_v46, main_v47, main_v48, main_v49, main_cst_12, main_v50, main_v51, main_v52, main_v53, main_v54, main_cst_13, main_v55, main_v56, main_v57, main_v58, main_v59, main_values, main_indices, main_v60, main_v61, main_v62, main_v63, main_cst_14, main_v64, main_c_15, main_v65, main_v66, main_c_16, main_v67, main_v68, main_v69, main_c_17, main_v70, main_v71, main_c_18, main_v72, main_v73, main_v74, main_v75, main_v76, main_v77, main_cst_19, main_v78, main_v79, main_cst_20, main_v80, main_cst_21, main_v81, main_v82, main_v83]
theorem hostOps0_5_writes : (hostOps0_5 : List (HloOp τ sig (Elt F))).Forall fun op => op.writes ⊆ (hostOps0_5_W.map (Proc.devRef (τ := τ) .tc)).toFinset :=
  StableHlo.forall_writes_sub_of_map rfl
abbrev hostOps0_6_W : List (Ref sig .tc) := [main_call4_cst, main_call4_v0, main_call4_v1, main_call4_v2, main_call4_c, main_call4_v3, main_call4_v4, main_call4_v5, main_call4_v6, main_call4_cst_0, main_call4_call0_v0, main_call4_call0_v1, main_v84]
theorem hostOps0_6_writes : (hostOps0_6 : List (HloOp τ sig (Elt F))).Forall fun op => op.writes ⊆ (hostOps0_6_W.map (Proc.devRef (τ := τ) .tc)).toFinset :=
  StableHlo.forall_writes_sub_of_map rfl
abbrev hostOps0_7_W : List (Ref sig .tc) := [main_v85, main_cst_22, main_v86, main_cst_23, main_v87, main_v88, main_v89, main_cst_24, main_v90, main_v91, main_v92, main_v93, main_v94, main_v95, main_cst_25, main_v96, main_v97, main_v98, main_v99, main_v100, main_v101]
theorem hostOps0_7_writes : (hostOps0_7 : List (HloOp τ sig (Elt F))).Forall fun op => op.writes ⊆ (hostOps0_7_W.map (Proc.devRef (τ := τ) .tc)).toFinset :=
  StableHlo.forall_writes_sub_of_map rfl

theorem keep_p1 {r : Ref sig .tc} (h : r ∉ hostOps0_1_W) : after hostOps0_1 V (Proc.devRef .tc r) = V (Proc.devRef .tc r) := after_of_writes_sub hostOps0_1 V hostOps0_1_writes h
theorem keep_p2 {r : Ref sig .tc} (h : r ∉ hostOps0_2_W) : after hostOps0_2 V (Proc.devRef .tc r) = V (Proc.devRef .tc r) := after_of_writes_sub hostOps0_2 V hostOps0_2_writes h
theorem keep_p3 {r : Ref sig .tc} (h : r ∉ hostOps0_3_W) : after hostOps0_3 V (Proc.devRef .tc r) = V (Proc.devRef .tc r) := after_of_writes_sub hostOps0_3 V hostOps0_3_writes h
theorem keep_p4 {r : Ref sig .tc} (h : r ∉ hostOps0_4_W) : after hostOps0_4 V (Proc.devRef .tc r) = V (Proc.devRef .tc r) := after_of_writes_sub hostOps0_4 V hostOps0_4_writes h
theorem keep_p5 {r : Ref sig .tc} (h : r ∉ hostOps0_5_W) : after hostOps0_5 V (Proc.devRef .tc r) = V (Proc.devRef .tc r) := after_of_writes_sub hostOps0_5 V hostOps0_5_writes h
theorem keep_p6 {r : Ref sig .tc} (h : r ∉ hostOps0_6_W) : after hostOps0_6 V (Proc.devRef .tc r) = V (Proc.devRef .tc r) := after_of_writes_sub hostOps0_6 V hostOps0_6_writes h
theorem keep_p7 {r : Ref sig .tc} (h : r ∉ hostOps0_7_W) : after hostOps0_7 V (Proc.devRef .tc r) = V (Proc.devRef .tc r) := after_of_writes_sub hostOps0_7 V hostOps0_7_writes h

set_option maxHeartbeats 1700000 in
theorem p1_dist : after hostOps0_1 V (Proc.devRef .tc main_v17) = sqd (V (Proc.devRef .tc main_v1)) (V (Proc.devRef .tc main_v3_2)) := by
  unfold sqd
  simp only [hostOps0_1]
  after_results_entrywise [cast_eq]

theorem p2_lab : after hostOps0_2 V (Proc.devRef .tc main_v18) = lab (V (Proc.devRef .tc main_v17)) := by
  unfold lab
  simp only [hostOps0_2]
  after_results_entrywise [cast_eq]

set_option maxHeartbeats 1700000 in
theorem p3_means : after hostOps0_3 V (Proc.devRef .tc main_v40) = meansR (V (Proc.devRef .tc main_v18)) (V (Proc.devRef .tc main_v1)) := by
  unfold meansR sumsR atLeastOne cntR wrapL
  simp only [hostOps0_3]
  after_results_entrywise [cast_eq]

set_option maxHeartbeats 1700000 in
theorem p3_occ : after hostOps0_3 V (Proc.devRef .tc main_v43) = occR (cntR (V (Proc.devRef .tc main_v18)) : FVec F S512 .f32) := by
  unfold occR cntR wrapL
  simp only [hostOps0_3]
  after_results_entrywise [cast_eq]

theorem p4_keep : after hostOps0_4 V (Proc.devRef .tc main_v44) = keepR (V (Proc.devRef .tc main_v43)) (V (Proc.devRef .tc main_v40)) (V (Proc.devRef .tc main_v3_2)) := by
  unfold keepR
  simp only [hostOps0_4]
  after_results_entrywise [cast_eq]

/-- Part 1 of the stretch. -/
abbrev p5ops0 : List (HloOp τ sig (Elt F)) :=
  [ StableHlo.binary main_v44 main_v44 main_v45 (mulf : (⟨S512x6, .f32⟩ : BufTy).Contents (Elt F) → (⟨S512x6, .f32⟩ : BufTy).Contents (Elt F) → (⟨S512x6, .f32⟩ : BufTy).Contents (Elt F)),
    StableHlo.nullary main_cst_11 (constant S_ .f32 0x00000000#32),
    StableHlo.binary main_v45 main_cst_11 main_v46 ((fun x v => Host.reduceAdd x v reducesTo_S512x6_S512_d1 h_S_) : (⟨S512x6, .f32⟩ : BufTy).Contents (Elt F) → (⟨S_, .f32⟩ : BufTy).Contents (Elt F) → (⟨S512, .f32⟩ : BufTy).Contents (Elt F)),
    StableHlo.unary main_v46 main_v47 (broadcastInDim S512x1 ![0] bcast_S512_S512x1_0 : (⟨S512, .f32⟩ : BufTy).Contents (Elt F) → (⟨S512x1, .f32⟩ : BufTy).Contents (Elt F)),
    StableHlo.unary main_v44 main_v48 ((transpose S6x512 [1, 0] · transposes_S512x6_S6x512_1_0) : (⟨S512x6, .f32⟩ : BufTy).Contents (Elt F) → (⟨S6x512, .f32⟩ : BufTy).Contents (Elt F)),
    StableHlo.binary main_v44 main_v48 main_v49 ((fun l r => Host.dotGeneral dot_S512x6_S6x512_S512x512_1_0_0_1_n_n none l r) : (⟨S512x6, .f32⟩ : BufTy).Contents (Elt F) → (⟨S6x512, .f32⟩ : BufTy).Contents (Elt F) → (⟨S512x512, .f32⟩ : BufTy).Contents (Elt F)),
    StableHlo.nullary main_cst_12 (constant S_ .f32 0x40000000#32),
    StableHlo.unary main_cst_12 main_v50 (broadcastInDim S512x512 ![] bcast_S_S512x512 : (⟨S_, .f32⟩ : BufTy).Contents (Elt F) → (⟨S512x512, .f32⟩ : BufTy).Contents (Elt F)),
    StableHlo.binary main_v50 main_v49 main_v51 (mulf : (⟨S512x512, .f32⟩ : BufTy).Contents (Elt F) → (⟨S512x512, .f32⟩ : BufTy).Contents (Elt F) → (⟨S512x512, .f32⟩ : BufTy).Contents (Elt F)),
    StableHlo.unary main_v47 main_v52 (broadcastInDim S512x512 ![0, 1] bcast_S512x1_S512x512_0_1 : (⟨S512x1, .f32⟩ : BufTy).Contents (Elt F) → (⟨S512x512, .f32⟩ : BufTy).Contents (Elt F)),
    StableHlo.binary main_v52 main_v51 main_v53 (subf : (⟨S512x512, .f32⟩ : BufTy).Contents (Elt F) → (⟨S512x512, .f32⟩ : BufTy).Contents (Elt F) → (⟨S512x512, .f32⟩ : BufTy).Contents (Elt F)),
    StableHlo.binary main_v44 main_v44 main_v54 (mulf : (⟨S512x6, .f32⟩ : BufTy).Contents (Elt F) → (⟨S512x6, .f32⟩ : BufTy).Contents (Elt F) → (⟨S512x6, .f32⟩ : BufTy).Contents (Elt F)),
    StableHlo.nullary main_cst_13 (constant S_ .f32 0x00000000#32),
    StableHlo.binary main_v54 main_cst_13 main_v55 ((fun x v => Host.reduceAdd x v reducesTo_S512x6_S512_d1 h_S_) : (⟨S512x6, .f32⟩ : BufTy).Contents (Elt F) → (⟨S_, .f32⟩ : BufTy).Contents (Elt F) → (⟨S512, .f32⟩ : BufTy).Contents (Elt F)),
    StableHlo.unary main_v55 main_v56 (broadcastInDim S1x512 ![1] bcast_S512_S1x512_1 : (⟨S512, .f32⟩ : BufTy).Contents (Elt F) → (⟨S1x512, .f32⟩ : BufTy).Contents (Elt F)),
    StableHlo.unary main_v56 main_v57 (broadcastInDim S512x512 ![0, 1] bcast_S1x512_S512x512_0_1 : (⟨S1x512, .f32⟩ : BufTy).Contents (Elt F) → (⟨S512x512, .f32⟩ : BufTy).Contents (Elt F)),
    StableHlo.binary main_v53 main_v57 main_v58 (addf : (⟨S512x512, .f32⟩ : BufTy).Contents (Elt F) → (⟨S512x512, .f32⟩ : BufTy).Contents (Elt F) → (⟨S512x512, .f32⟩ : BufTy).Contents (Elt F)) ]
abbrev p5W0 : List (Ref sig .tc) := [main_v45, main_cst_11, main_v46, main_v47, main_v48, main_v49, main_cst_12, main_v50, main_v51, main_v52, main_v53, main_v54, main_cst_13, main_v55, main_v56, main_v57, main_v58]
theorem p5writes0 : (p5ops0 : List (HloOp τ sig (Elt F))).Forall fun op => op.writes ⊆ (p5W0.map (Proc.devRef (τ := τ) .tc)).toFinset :=
  StableHlo.forall_writes_sub_of_map rfl
theorem p5keep0 {r : Ref sig .tc} (h : r ∉ p5W0) : after p5ops0 V (Proc.devRef .tc r) = V (Proc.devRef .tc r) := after_of_writes_sub p5ops0 V p5writes0 h
/-- Part 2 of the stretch. -/
abbrev p5ops1 : List (HloOp τ sig (Elt F)) :=
  [ StableHlo.unary main_v58 main_v59 (Host.negf : (⟨S512x512, .f32⟩ : BufTy).Contents (Elt F) → (⟨S512x512, .f32⟩ : BufTy).Contents (Elt F)),
    StableHlo.unary main_v59 main_values ((fun x => (Host.topK S512x16 1 (FloatOps.cmpfTotal .gt) x sliceFits_S512x512_S512x16).1) : (⟨S512x512, .f32⟩ : BufTy).Contents (Elt F) → (⟨S512x16, .f32⟩ : BufTy).Contents (Elt F)),
    StableHlo.unary main_v59 main_indices ((fun x => (Host.topK S512x16 1 (FloatOps.cmpfTotal .gt) x sliceFits_S512x512_S512x16).2) : (⟨S512x512, .f32⟩ : BufTy).Contents (Elt F) → (⟨S512x16, .i32⟩ : BufTy).Contents (Elt F)),
    StableHlo.reshape main_indices main_v60 (rfl : (.i32 : EltTy) = .i32) shapeCasts_S512x16_S8192,
    StableHlo.nullary main_v61 (iotaInDim S512 32 0),
    StableHlo.unary main_v61 main_v62 (broadcastInDim S512x16 ![0] bcast_S512_S512x16_0 : (⟨S512, .i32⟩ : BufTy).Contents (Elt F) → (⟨S512x16, .i32⟩ : BufTy).Contents (Elt F)),
    StableHlo.reshape main_v62 main_v63 (rfl : (.i32 : EltTy) = .i32) shapeCasts_S512x16_S8192 ]
abbrev p5W1 : List (Ref sig .tc) := [main_v59, main_values, main_indices, main_v60, main_v61, main_v62, main_v63]
theorem p5writes1 : (p5ops1 : List (HloOp τ sig (Elt F))).Forall fun op => op.writes ⊆ (p5W1.map (Proc.devRef (τ := τ) .tc)).toFinset :=
  StableHlo.forall_writes_sub_of_map rfl
theorem p5keep1 {r : Ref sig .tc} (h : r ∉ p5W1) : after p5ops1 V (Proc.devRef .tc r) = V (Proc.devRef .tc r) := after_of_writes_sub p5ops1 V p5writes1 h
/-- Part 3 of the stretch. -/
abbrev p5ops2 : List (HloOp τ sig (Elt F)) :=
  [ StableHlo.nullary main_cst_14 (constant S_ .f32 0x00000000#32),
    StableHlo.unary main_cst_14 main_v64 (broadcastInDim S512x512 ![] bcast_S_S512x512 : (⟨S_, .f32⟩ : BufTy).Contents (Elt F) → (⟨S512x512, .f32⟩ : BufTy).Contents (Elt F)),
    StableHlo.nullary main_c_15 (constantI S_ 32 0#32),
    StableHlo.unary main_c_15 main_v65 (broadcastInDim S8192 ![] bcast_S_S8192 : (⟨S_, .i32⟩ : BufTy).Contents (Elt F) → (⟨S8192, .i32⟩ : BufTy).Contents (Elt F)),
    StableHlo.binary main_v60 main_v65 main_v66 (cmpi .slt : (⟨S8192, .i32⟩ : BufTy).Contents (Elt F) → (⟨S8192, .i32⟩ : BufTy).Contents (Elt F) → (⟨S8192, .i1⟩ : BufTy).Contents (Elt F)),
    StableHlo.nullary main_c_16 (constantI S_ 32 512#32),
    StableHlo.unary main_c_16 main_v67 (broadcastInDim S8192 ![] bcast_S_S8192 : (⟨S_, .i32⟩ : BufTy).Contents (Elt F) → (⟨S8192, .i32⟩ : BufTy).Contents (Elt F)),
    StableHlo.binary main_v60 main_v67 main_v68 (addi : (⟨S8192, .i32⟩ : BufTy).Contents (Elt F) → (⟨S8192, .i32⟩ : BufTy).Contents (Elt F) → (⟨S8192, .i32⟩ : BufTy).Contents (Elt F)),
    StableHlo.ternary main_v66 main_v68 main_v60 main_v69 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_17 (constantI S_ 32 0#32),
    StableHlo.unary main_c_17 main_v70 (broadcastInDim S8192 ![] bcast_S_S8192 : (⟨S_, .i32⟩ : BufTy).Contents (Elt F) → (⟨S8192, .i32⟩ : BufTy).Contents (Elt F)),
    StableHlo.binary main_v63 main_v70 main_v71 (cmpi .slt : (⟨S8192, .i32⟩ : BufTy).Contents (Elt F) → (⟨S8192, .i32⟩ : BufTy).Contents (Elt F) → (⟨S8192, .i1⟩ : BufTy).Contents (Elt F)),
    StableHlo.nullary main_c_18 (constantI S_ 32 512#32),
    StableHlo.unary main_c_18 main_v72 (broadcastInDim S8192 ![] bcast_S_S8192 : (⟨S_, .i32⟩ : BufTy).Contents (Elt F) → (⟨S8192, .i32⟩ : BufTy).Contents (Elt F)),
    StableHlo.binary main_v63 main_v72 main_v73 (addi : (⟨S8192, .i32⟩ : BufTy).Contents (Elt F) → (⟨S8192, .i32⟩ : BufTy).Contents (Elt F) → (⟨S8192, .i32⟩ : BufTy).Contents (Elt F)),
    StableHlo.ternary main_v71 main_v73 main_v63 main_v74 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) ]
abbrev p5W2 : List (Ref sig .tc) := [main_cst_14, main_v64, main_c_15, main_v65, main_v66, main_c_16, main_v67, main_v68, main_v69, main_c_17, main_v70, main_v71, main_c_18, main_v72, main_v73, main_v74]
theorem p5writes2 : (p5ops2 : List (HloOp τ sig (Elt F))).Forall fun op => op.writes ⊆ (p5W2.map (Proc.devRef (τ := τ) .tc)).toFinset :=
  StableHlo.forall_writes_sub_of_map rfl
theorem p5keep2 {r : Ref sig .tc} (h : r ∉ p5W2) : after p5ops2 V (Proc.devRef .tc r) = V (Proc.devRef .tc r) := after_of_writes_sub p5ops2 V p5writes2 h
/-- Part 4 of the stretch. -/
abbrev p5ops3 : List (HloOp τ sig (Elt F)) :=
  [ StableHlo.unary main_v69 main_v75 (broadcastInDim S8192x1 ![0] bcast_S8192_S8192x1_0 : (⟨S8192, .i32⟩ : BufTy).Contents (Elt F) → (⟨S8192x1, .i32⟩ : BufTy).Contents (Elt F)),
    StableHlo.unary main_v74 main_v76 (broadcastInDim S8192x1 ![0] bcast_S8192_S8192x1_0 : (⟨S8192, .i32⟩ : BufTy).Contents (Elt F) → (⟨S8192x1, .i32⟩ : BufTy).Contents (Elt F)),
    StableHlo.binary main_v75 main_v76 main_v77 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.nullary main_cst_19 (constant S_ .f32 0x3F800000#32),
    StableHlo.unary main_cst_19 main_v78 (broadcastInDim S8192 ![] bcast_S_S8192 : (⟨S_, .f32⟩ : BufTy).Contents (Elt F) → (⟨S8192, .f32⟩ : BufTy).Contents (Elt F)),
    StableHlo.ternary main_v64 main_v77 main_v78 main_v79 ((fun x i u => Host.scatter scatter_S512x512_S8192x2_S8192_n_01_01_1 (fun _ b => b) x i u) : (⟨S512x512, .f32⟩ : BufTy).Contents (Elt F) → (⟨S8192x2, .i32⟩ : BufTy).Contents (Elt F) → (⟨S8192, .f32⟩ : BufTy).Contents (Elt F) → (⟨S512x512, .f32⟩ : BufTy).Contents (Elt F)),
    StableHlo.nullary main_cst_20 (constant S_ .f32 0x00000000#32),
    StableHlo.binary main_v79 main_cst_20 main_v80 ((fun x v => Host.reduceAdd x v reducesTo_S512x512_S512_d1 h_S_) : (⟨S512x512, .f32⟩ : BufTy).Contents (Elt F) → (⟨S_, .f32⟩ : BufTy).Contents (Elt F) → (⟨S512, .f32⟩ : BufTy).Contents (Elt F)),
    StableHlo.nullary main_cst_21 (constant S_ .f32 0x00000000#32),
    StableHlo.unary main_cst_21 main_v81 (broadcastInDim S512 ![] bcast_S_S512 : (⟨S_, .f32⟩ : BufTy).Contents (Elt F) → (⟨S512, .f32⟩ : BufTy).Contents (Elt F)),
    StableHlo.binary main_v80 main_v81 main_v82 (cmpf .oeq : (⟨S512, .f32⟩ : BufTy).Contents (Elt F) → (⟨S512, .f32⟩ : BufTy).Contents (Elt F) → (⟨S512, .i1⟩ : BufTy).Contents (Elt F)),
    StableHlo.unary main_v82 main_v83 (uitofp .f32 : (⟨S512, .i1⟩ : BufTy).Contents (Elt F) → (⟨S512, .f32⟩ : BufTy).Contents (Elt F)) ]
abbrev p5W3 : List (Ref sig .tc) := [main_v75, main_v76, main_v77, main_cst_19, main_v78, main_v79, main_cst_20, main_v80, main_cst_21, main_v81, main_v82, main_v83]
theorem p5writes3 : (p5ops3 : List (HloOp τ sig (Elt F))).Forall fun op => op.writes ⊆ (p5W3.map (Proc.devRef (τ := τ) .tc)).toFinset :=
  StableHlo.forall_writes_sub_of_map rfl
theorem p5keep3 {r : Ref sig .tc} (h : r ∉ p5W3) : after p5ops3 V (Proc.devRef .tc r) = V (Proc.devRef .tc r) := after_of_writes_sub p5ops3 V p5writes3 h

theorem p5_cut : (hostOps0_5 : List (HloOp τ sig (Elt F))) = p5ops0 ++ (p5ops1 ++ (p5ops2 ++ p5ops3)) := rfl

theorem p5_split : after hostOps0_5 V = after p5ops3 (after p5ops2 (after p5ops1 (after p5ops0 V))) := by
  rw [p5_cut, after_append, after_append, after_append]

set_option maxHeartbeats 1700000 in
theorem p5_dist : after p5ops0 V (Proc.devRef .tc main_v58) = sqdC (V (Proc.devRef .tc main_v44)) := by
  unfold sqdC
  simp only [p5ops0]
  after_results_entrywise [cast_eq]

theorem p5_rows : after p5ops1 V (Proc.devRef .tc main_v60) = rowsR (nbrR (V (Proc.devRef .tc main_v58))) := by
  unfold rowsR nbrR
  simp only [p5ops1]
  after_results
  rfl

theorem p5_cols : after p5ops1 V (Proc.devRef .tc main_v63) = colsR := by
  unfold colsR
  simp only [p5ops1]
  after_results
  rfl

theorem p5_zero : after p5ops2 V (Proc.devRef .tc main_v64) = broadcastInDim S512x512 ![] bcast_S_S512x512 (constant S_ .f32 0x00000000#32) := by
  simp only [p5ops2]
  after_results_entrywise [cast_eq]

theorem p5_wrapr : after p5ops2 V (Proc.devRef .tc main_v69) = wrap8 (V (Proc.devRef .tc main_v60)) := by
  unfold wrap8
  simp only [p5ops2]
  after_results_entrywise [cast_eq]

theorem p5_wrapc : after p5ops2 V (Proc.devRef .tc main_v74) = wrap8 (V (Proc.devRef .tc main_v63)) := by
  unfold wrap8
  simp only [p5ops2]
  after_results_entrywise [cast_eq]

set_option maxHeartbeats 1700000 in
theorem p5_scat : after p5ops3 V (Proc.devRef .tc main_v79) = Host.scatter scatter_S512x512_S8192x2_S8192_n_01_01_1 (fun _ b => b) (V (Proc.devRef .tc main_v64))
    (concatenate S8192x2 1 [⟨S8192x1, broadcastInDim S8192x1 ![0] bcast_S8192_S8192x1_0 (V (Proc.devRef .tc main_v69))⟩, ⟨S8192x1, broadcastInDim S8192x1 ![0] bcast_S8192_S8192x1_0 (V (Proc.devRef .tc main_v74))⟩] concatenates_S8192x1_S8192x1_S8192x2_d1)
    (broadcastInDim S8192 ![] bcast_S_S8192 (constant S_ .f32 0x3F800000#32)) := by
  simp only [p5ops3]
  after_results_entrywise [cast_eq]

set_option maxHeartbeats 1700000 in
theorem p5_isoS : after p5ops3 V (Proc.devRef .tc main_v83) = isoR (Host.scatter scatter_S512x512_S8192x2_S8192_n_01_01_1 (fun _ b => b) (V (Proc.devRef .tc main_v64))
    (concatenate S8192x2 1 [⟨S8192x1, broadcastInDim S8192x1 ![0] bcast_S8192_S8192x1_0 (V (Proc.devRef .tc main_v69))⟩, ⟨S8192x1, broadcastInDim S8192x1 ![0] bcast_S8192_S8192x1_0 (V (Proc.devRef .tc main_v74))⟩] concatenates_S8192x1_S8192x1_S8192x2_d1)
    (broadcastInDim S8192 ![] bcast_S_S8192 (constant S_ .f32 0x3F800000#32)) : FVec F S512x512 .f32) := by
  unfold isoR
  simp only [p5ops3]
  after_results_entrywise [cast_eq]

theorem p5_inc : after hostOps0_5 V (Proc.devRef .tc main_v79) = incR (rowsR (nbrR (sqdC (V (Proc.devRef .tc main_v44))))) colsR := by
  rw [p5_split, p5_scat, p5_zero, p5_wrapr, p5_wrapc, p5_rows, p5_cols, p5_dist]
  rfl

theorem p5_iso : after hostOps0_5 V (Proc.devRef .tc main_v83) = isoR (incR (rowsR (nbrR (sqdC (V (Proc.devRef .tc main_v44))))) colsR : FVec F S512x512 .f32) := by
  rw [p5_split, p5_isoS, p5_zero, p5_wrapr, p5_wrapc, p5_rows, p5_cols, p5_dist]
  rfl

theorem p6_diag : after hostOps0_6 V (Proc.devRef .tc main_v84) = diagR (V (Proc.devRef .tc main_v83)) := by
  unfold diagR
  simp only [hostOps0_6]
  after_results_entrywise [cast_eq]

set_option maxHeartbeats 1700000 in
theorem p7_out : after hostOps0_7 V (Proc.devRef .tc main_v101)
    = outR (hypR (V (Proc.devRef .tc main_v79)) (V (Proc.devRef .tc main_v84))) (edgeR (hypR (V (Proc.devRef .tc main_v79)) (V (Proc.devRef .tc main_v84))) (V (Proc.devRef .tc main_v44))) := by
  unfold outR hypR edgeR atLeastOne
  simp only [hostOps0_7]
  after_results_entrywise [cast_eq]

/-- The result array after the loop's exit: a seventh step and the hypergraph stage. -/
theorem post_out : afterL postI V (Proc.devRef .tc main_v101) = hyperR (stepR (V (Proc.devRef .tc main_v1)) (V (Proc.devRef .tc main_v3_2))) := by
  simp only [afterL_cons, afterL_nil]
  rw [p7_out, p6_diag, keep_p6 _ (r := main_v79) (by decide +kernel), keep_p6 _ (r := main_v44) (by decide +kernel), p5_inc, p5_iso, keep_p5 _ (r := main_v44) (by decide +kernel),
    p4_keep, p3_means, p3_occ, keep_p3 _ (r := main_v3_2) (by decide +kernel), p2_lab, keep_p2 _ (r := main_v1) (by decide +kernel), keep_p2 _ (r := main_v3_2) (by decide +kernel),
    p1_dist, keep_p1 _ (r := main_v1) (by decide +kernel), keep_p1 _ (r := main_v3_2) (by decide +kernel)]
  rfl

theorem post_keep {r : Ref sig .tc} (h1 : r ∉ hostOps0_1_W) (h2 : r ∉ hostOps0_2_W) (h3 : r ∉ hostOps0_3_W) (h4 : r ∉ hostOps0_4_W) (h5 : r ∉ hostOps0_5_W) (h6 : r ∉ hostOps0_6_W)
    (h7 : r ∉ hostOps0_7_W) : afterL postI V (Proc.devRef .tc r) = V (Proc.devRef .tc r) := by
  simp only [afterL_cons, afterL_nil]
  rw [keep_p7 _ h7, keep_p6 _ h6, keep_p5 _ h5, keep_p4 _ h4, keep_p3 _ h3, keep_p2 _ h2, keep_p1 _ h1]

end Cert.ReferenceIdeal.Value

end
-- ==== Proof.RefRun.lean ====
/- The reference's run: its result array is a function of its input array. -/
module

public import proofs.«01_k».proof.Proof.RefTrip
public import proofs.«01_k».proof.Proof.RefPost

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo

variable {F : FTy → Type} [FloatOps F]

/-! ## Before the loop -/

variable (V : Valuation τ sig (Elt F))

theorem pre_pts : after hostOps0 V (Proc.devRef .tc main_v1) = ptsR (V (Proc.devRef .tc main_arg0)) := by
  unfold ptsR
  simp only [hostOps0]
  after_results
  rfl

theorem pre_pts' : after hostOps0 V (Proc.devRef .tc main_v3_0) = ptsR (V (Proc.devRef .tc main_arg0)) := by
  unfold ptsR
  simp only [hostOps0]
  after_results
  rfl

theorem pre_cent : after hostOps0 V (Proc.devRef .tc main_v3_2) = cent0R (ptsR (V (Proc.devRef .tc main_arg0))) := by
  unfold cent0R ptsR
  simp only [hostOps0]
  after_results
  rfl

theorem pre_keep {r : Ref sig .tc} (h : r ∉ hostOps0_W) : after hostOps0 V (Proc.devRef .tc r) = V (Proc.devRef .tc r) := after_of_writes_sub hostOps0 V hostOps0_writes h

/-! ## The run -/

variable (m : (ℓ : Loc nD τ sig) → Buf (Elt F) ℓ) (ρ : Dev nD → PrngReg)

/-- The input array at the launch. -/
abbrev inR (c : Dev nD) : FVec F S2x6x16384 .f32 := m ((c.tc : Thread nD τ).loc main_arg0)

theorem atK_arg (c : Dev nD) : ∀ k, atK m k c (Proc.devRef .tc main_arg0) = inR m c
  | 0 => by rw [show atK m 0 c = after hostOps0 (launchContents m c) from rfl, pre_keep _ (r := main_arg0) (by decide +kernel)]
  | k + 1 => by
    rw [show atK m (k + 1) c = afterL bodyI (after condOps (atK m k c)) from rfl,
      trip_keep _ (by decide +kernel) (by decide +kernel) (by decide +kernel) (by decide +kernel) (by decide +kernel), keep_c _ (by decide +kernel), atK_arg c k]

theorem atK_v1 (c : Dev nD) : ∀ k, atK m k c (Proc.devRef .tc main_v1) = ptsR (inR m c)
  | 0 => by rw [show atK m 0 c = after hostOps0 (launchContents m c) from rfl, pre_pts]
  | k + 1 => by
    rw [show atK m (k + 1) c = afterL bodyI (after condOps (atK m k c)) from rfl,
      trip_keep _ (by decide +kernel) (by decide +kernel) (by decide +kernel) (by decide +kernel) (by decide +kernel), keep_c _ (by decide +kernel), atK_v1 c k]

theorem atK_pts (c : Dev nD) : ∀ k, atK m k c (Proc.devRef .tc main_v3_0) = ptsR (inR m c)
  | 0 => by rw [show atK m 0 c = after hostOps0 (launchContents m c) from rfl, pre_pts']
  | k + 1 => by
    rw [show atK m (k + 1) c = afterL bodyI (after condOps (atK m k c)) from rfl,
      trip_keep _ (by decide +kernel) (by decide +kernel) (by decide +kernel) (by decide +kernel) (by decide +kernel), keep_c _ (by decide +kernel), atK_pts c k]

/-- After `k` trips the carried centres are `k` steps from the first ones. -/
theorem atK_cent (c : Dev nD) : ∀ k, atK m k c (Proc.devRef .tc main_v3_2) = (stepR (ptsR (inR m c)))^[k] (cent0R (ptsR (inR m c)))
  | 0 => by rw [show atK m 0 c = after hostOps0 (launchContents m c) from rfl, pre_cent]; rfl
  | k + 1 => by
    rw [show atK m (k + 1) c = afterL bodyI (after condOps (atK m k c)) from rfl, trip_cent, keep_c _ (r := main_v3_0) (by decide +kernel), keep_c _ (r := main_v3_2) (by decide +kernel),
      atK_pts m c k, atK_cent c k, Function.iterate_succ_apply']

/-- The reference's result as a function of its input. -/
def refOut (x : FVec F S2x6x16384 .f32) : FVec F S512x4 .f32 := hyperR ((stepR (ptsR x))^[7] (cent0R (ptsR x)))

theorem final_out (c : Dev nD) : finalContents condOps preI bodyI postI 6 m c (Proc.devRef .tc main_v101) = refOut (inR m c) := by
  unfold finalContents
  rw [post_out, keep_c _ (r := main_v1) (by decide +kernel), keep_c _ (r := main_v3_2) (by decide +kernel)]
  rw [show atTrip condOps bodyI (entryContents preI m) 6 c = atK m 6 c from rfl, atK_v1, atK_cent, refOut, Function.iterate_succ_apply' _ 6]

theorem final_arg (c : Dev nD) : finalContents condOps preI bodyI postI 6 m c (Proc.devRef .tc main_arg0) = inR m c := by
  unfold finalContents
  rw [post_keep _ (by decide +kernel) (by decide +kernel) (by decide +kernel) (by decide +kernel) (by decide +kernel) (by decide +kernel) (by decide +kernel), keep_c _ (r := main_arg0) (by decide +kernel)]
  exact atK_arg m c 6

/-- The reference's run: the result array holds `refOut` of the input, the input array is unchanged, every counter reads
    zero. -/
theorem run_out : θ_run (defs (F := F)) (onTc (τ := τ) (main (F := F))) ⟨m, fun _ => 0, ρ⟩
    (fun r => (∀ c : Dev nD, r.2.mem ((c.tc : Thread nD τ).loc main_v101) = refOut (inR m c)
      ∧ r.2.mem ((c.tc : Thread nD τ).loc main_arg0) = m ((c.tc : Thread nD τ).loc main_arg0)) ∧ r.2.sem = fun _ => 0) :=
  (θ_run _ _ _).mono (fun r h => ⟨fun c => ⟨(h c main_v101 (by decide)).trans (final_out m c), (h c main_arg0 (by decide)).trans (final_arg m c)⟩,
    sem_eq_zero_of_no_sems rfl r.2⟩) (run_fold m ρ)

end Cert.ReferenceIdeal.Value

end
-- ==== Proof.Base.lean ====
/- Finite values, the first least entry of a row, and what a fold of minima gives at it. -/
module

public import Idealize.ShloMosaic.Lib.Pointwise
public import Idealize.ShloMosaic.Lib.SortPrefix
public import Idealize.ShloMosaic.Lib.SortFacts
public import Idealize.ShloMosaic.Lib.Tactic

@[expose] public section

set_option maxRecDepth 16384

noncomputable section

namespace Cert.Same

open Idealize.ShloMosaic

/-! ## Finite values -/

/-- A value that is a real number. -/
def IsR (x : EReal) : Prop := ∃ r : ℝ, x = (r : EReal)

theorem IsR.zero : IsR 0 := ⟨0, rfl⟩
theorem IsR.one : IsR 1 := ⟨1, rfl⟩

theorem IsR.add {x y : EReal} : IsR x → IsR y → IsR (x + y) := by
  rintro ⟨a, rfl⟩ ⟨b, rfl⟩
  exact ⟨a + b, (EReal.coe_add a b).symm⟩

theorem IsR.sub {x y : EReal} : IsR x → IsR y → IsR (x - y) := by
  rintro ⟨a, rfl⟩ ⟨b, rfl⟩
  exact ⟨a - b, (EReal.coe_sub a b).symm⟩

theorem IsR.mul {x y : EReal} : IsR x → IsR y → IsR (x * y) := by
  rintro ⟨a, rfl⟩ ⟨b, rfl⟩
  exact ⟨a * b, (EReal.coe_mul a b).symm⟩

theorem IsR.sum {ι : Type*} (s : Finset ι) (f : ι → EReal) (h : ∀ i ∈ s, IsR (f i)) : IsR (∑ i ∈ s, f i) := by
  classical
  induction s using Finset.induction_on with
  | empty => exact IsR.zero
  | insert a s ha ih =>
    rw [Finset.sum_insert ha]
    exact (h a (Finset.mem_insert_self a s)).add (ih fun i hi => h i (Finset.mem_insert_of_mem hi))

theorem IsR.max {x y : EReal} : IsR x → IsR y → IsR (max x y) := by
  rintro ⟨a, rfl⟩ ⟨b, rfl⟩
  rcases le_total a b with h | h
  · exact ⟨b, max_eq_right (EReal.coe_le_coe_iff.2 h)⟩
  · exact ⟨a, max_eq_left (EReal.coe_le_coe_iff.2 h)⟩

theorem IsR.sub_self {x : EReal} : IsR x → x - x = 0 := by
  rintro ⟨a, rfl⟩
  rw [← EReal.coe_sub, _root_.sub_self]
  rfl

theorem IsR.ne_top {x : EReal} : IsR x → x ≠ ⊤ := by
  rintro ⟨a, rfl⟩
  exact EReal.coe_ne_top a

theorem IsR.lt_top {x : EReal} (h : IsR x) : x < ⊤ := lt_top_iff_ne_top.2 h.ne_top

/-- Division by a divisor that is at least one keeps a value finite. -/
theorem IsR.div_max {x n : EReal} (hx : IsR x) (hn : IsR n) : IsR (Ideal.div x (Max.max n 1)) := by
  obtain ⟨r, hr⟩ := hn.max IsR.one
  have h1 : (1 : EReal) ≤ (r : EReal) := hr ▸ le_max_right n 1
  have h0 : r ≠ 0 := by
    have : (1 : ℝ) ≤ r := by exact_mod_cast h1
    exact (lt_of_lt_of_le one_pos this).ne'
  rw [hr, Ideal.div_coe h0]
  exact hx.mul ⟨_, rfl⟩

theorem IsR.ite {p : Prop} [Decidable p] {x y : EReal} (hx : IsR x) (hy : IsR y) : IsR (if p then x else y) := by
  split
  · exact hx
  · exact hy

/-! ## Constants -/

theorem bits_top : Ideal.ofBits .f32 2139095040#32 = (⊤ : EReal) := by simp [Ideal.ofBits, Ideal.ieee]
theorem bits_two : Ideal.ofBits .f32 1073741824#32 = ((2 : ℝ) : EReal) := by
  simp [Ideal.ofBits, Ideal.ieee]
  rw [← EReal.coe_mul]
  norm_num
theorem bits_512 : Ideal.ofBits .f32 1140850688#32 = ((512 : ℝ) : EReal) := by
  simp [Ideal.ofBits, Ideal.ieee]
  rw [← EReal.coe_mul]
  norm_num
theorem bits_one16 : Ideal.ofBits .bf16 16256#16 = (1 : EReal) := by
  simp [Ideal.ofBits, Ideal.ieee]
  rw [← EReal.coe_mul, ← EReal.coe_one]
  norm_num

theorem toInt_small {n : ℕ} (h : n < 2 ^ 31) : (BitVec.ofNat 32 n).toInt = (n : ℤ) := by
  have hn : (BitVec.ofNat 32 n).toNat = n := by
    rw [BitVec.toNat_ofNat]
    exact Nat.mod_eq_of_lt (by omega)
  rw [BitVec.toInt_eq_toNat_of_lt (by rw [hn]; omega), hn]

theorem sitofp_small {n : ℕ} (h : n < 2 ^ 31) : (FloatOps.sitofp .f32 (BitVec.ofNat 32 n) : Ideal .f32) = (((n : ℝ)) : EReal) := by
  show (((BitVec.ofNat 32 n).toInt : ℝ) : EReal) = _
  rw [toInt_small h]
  norm_cast

theorem sitofp_bool (b : Bool) : (FloatOps.sitofp .f32 (BitVec.setWidth 32 (BitVec.ofBool b)) : Ideal .f32) = (if b = true then 1 else 0 : EReal) := by
  show (((BitVec.setWidth 32 (BitVec.ofBool b)).toInt : ℝ) : EReal) = _
  cases b
  · rw [show (BitVec.setWidth 32 (BitVec.ofBool false)).toInt = 0 by decide]; simp
  · rw [show (BitVec.setWidth 32 (BitVec.ofBool true)).toInt = 1 by decide]; simp

theorem ofNat_inj512 (a b : Fin 512) : BitVec.ofNat 32 a.val = BitVec.ofNat 32 b.val ↔ a = b := by
  constructor
  · intro h
    have := congrArg BitVec.toNat h
    simp only [BitVec.toNat_ofNat] at this
    have ha := a.isLt
    have hb := b.isLt
    apply Fin.ext
    omega
  · rintro rfl; rfl

theorem cmpi_eq512 (a b : Fin 512) : IntOp.cmpi .eq (BitVec.ofNat 32 a.val) (BitVec.ofNat 32 b.val) = BitVec.ofBool (decide (a = b)) := by
  show BitVec.ofBool (BitVec.ofNat 32 a.val == BitVec.ofNat 32 b.val) = _
  congr 1
  rw [Bool.eq_iff_iff, beq_iff_eq, decide_eq_true_eq]
  exact ofNat_inj512 a b

theorem toInt512 (a : Fin 512) : (BitVec.ofNat 32 a.val).toInt = (a.val : ℤ) := toInt_small (by have := a.isLt; omega)

theorem toInt_min (a b : BitVec 32) : (IntOp.minsi a b).toInt = min a.toInt b.toInt := by
  unfold IntOp.minsi
  split
  · next h => rw [min_eq_left (by rw [BitVec.slt_iff_toInt_lt] at h; exact h.le)]
  · next h => rw [min_eq_right (by rw [BitVec.slt_iff_toInt_lt] at h; exact not_lt.1 h)]

/-! ## The first least entry of a row -/

/-- Entry `l` is the least of the row, and the first such. -/
def IsFirst {n : ℕ} (f : Fin n → EReal) (l : Fin n) : Prop := (∀ j, f l ≤ f j) ∧ ∀ j, j < l → f l < f j

theorem exists_first {n : ℕ} [NeZero n] (f : Fin n → EReal) : ∃ l, IsFirst f l := by
  classical
  obtain ⟨m, -, hm⟩ := Finset.exists_min_image (Finset.univ : Finset (Fin n)) f ⟨0, Finset.mem_univ _⟩
  obtain ⟨l, hl, hmin⟩ := Finset.exists_min_image (Finset.univ.filter fun j => ∀ k, f j ≤ f k) id
    ⟨m, Finset.mem_filter.2 ⟨Finset.mem_univ _, fun k => hm k (Finset.mem_univ _)⟩⟩
  have hl' := (Finset.mem_filter.1 hl).2
  refine ⟨l, hl', fun j hj => ?_⟩
  by_contra hc
  have : l ≤ j := hmin j (Finset.mem_filter.2 ⟨Finset.mem_univ _, fun k => (not_lt.1 hc).trans (hl' k)⟩)
  exact absurd hj (not_lt.2 this)

theorem IsFirst.unique {n : ℕ} {f : Fin n → EReal} {a b : Fin n} (ha : IsFirst f a) (hb : IsFirst f b) : a = b := by
  rcases lt_trichotomy a b with h | h | h
  · exact absurd (hb.2 a h) (not_lt.2 (ha.1 b))
  · exact h
  · exact absurd (ha.2 b h) (not_lt.2 (hb.1 a))

/-- The place of the first least entry. -/
def first (f : Fin 512 → EReal) : Fin 512 := (exists_first f).choose

theorem first_spec (f : Fin 512 → EReal) : IsFirst f (first f) := (exists_first f).choose_spec

theorem fold_min_first {n : ℕ} {f : Fin n → EReal} {l : Fin n} (h : IsFirst f l) : Finset.fold min (⊤ : EReal) f Finset.univ = f l :=
  le_antisymm ((Finset.fold_min_le _).2 (Or.inr ⟨l, Finset.mem_univ _, le_rfl⟩)) ((Finset.le_fold_min _).2 ⟨le_top, fun j _ => h.1 j⟩)

/-- The least place among the least entries, as a float. -/
theorem fold_min_place {f : Fin 512 → EReal} {l : Fin 512} (h : IsFirst f l) :
    Finset.fold min (⊤ : EReal) (fun x : Fin 512 => if f x = f l then (((x.val : ℝ)) : EReal) else ((512 : ℝ) : EReal)) Finset.univ = (((l.val : ℝ)) : EReal) := by
  apply le_antisymm
  · exact (Finset.fold_min_le _).2 (Or.inr ⟨l, Finset.mem_univ _, by rw [if_pos rfl]⟩)
  · refine (Finset.le_fold_min _).2 ⟨le_top, fun x _ => ?_⟩
    split
    · next e =>
      have : l ≤ x := by
        by_contra hc
        exact absurd (h.2 x (not_le.1 hc)) (by rw [e]; exact lt_irrefl _)
      rw [EReal.coe_le_coe_iff]
      exact_mod_cast this
    · rw [EReal.coe_le_coe_iff]
      exact_mod_cast l.isLt.le

/-- The least place among the least entries, as a word. -/
theorem fold_minsi_place {f : Fin 512 → EReal} {l : Fin 512} (h : IsFirst f l) :
    Finset.fold IntOp.minsi (2147483647#32) (fun x : Fin 512 => if f x = f l then BitVec.ofNat 32 x.val else 512#32) Finset.univ = BitVec.ofNat 32 l.val := by
  apply BitVec.eq_of_toInt_eq
  rw [← Finset.fold_hom (op' := (min : ℤ → ℤ → ℤ)) (m := BitVec.toInt) toInt_min, toInt512]
  apply le_antisymm
  · exact (Finset.fold_min_le _).2 (Or.inr ⟨l, Finset.mem_univ _, by rw [if_pos rfl, toInt512]⟩)
  · refine (Finset.le_fold_min _).2 ⟨?_, fun x _ => ?_⟩
    · have := l.isLt
      rw [show (2147483647#32 : BitVec 32).toInt = 2147483647 by decide]
      omega
    split
    · next e =>
      have : l ≤ x := by
        by_contra hc
        exact absurd (h.2 x (not_le.1 hc)) (by rw [e]; exact lt_irrefl _)
      rw [toInt512]
      exact_mod_cast this
    · rw [show (512#32 : BitVec 32).toInt = 512 by decide]
      have := l.isLt
      omega

/-! ## Picking the first least entry again and again -/

/-- What is left of a row after `n` picks, a picked entry being put to the top. -/
def left (f : Fin 512 → EReal) : ℕ → Fin 512 → EReal
  | 0 => f
  | n + 1 => fun v => if v = first (left f n) then ⊤ else left f n v

/-- The place of pick `n`. -/
def pick (f : Fin 512 → EReal) (n : ℕ) : Fin 512 := first (left f n)

theorem pick_eq (f : Fin 512 → EReal) (n : ℕ) : pick f n = first (left f n) := rfl

theorem left_succ (f : Fin 512 → EReal) (n : ℕ) (v : Fin 512) : left f (n + 1) v = if v = pick f n then ⊤ else left f n v := rfl

theorem left_of_not {f : Fin 512 → EReal} {v : Fin 512} : ∀ {n : ℕ}, (∀ m, m < n → pick f m ≠ v) → left f n v = f v
  | 0, _ => rfl
  | n + 1, h => by
    show (if v = first (left f n) then ⊤ else left f n v) = f v
    rw [if_neg fun e => h n (Nat.lt_succ_self n) e.symm]
    exact left_of_not fun m hm => h m (Nat.lt_succ_of_lt hm)

theorem left_of_mem {f : Fin 512 → EReal} {v : Fin 512} : ∀ {n m : ℕ}, m < n → pick f m = v → left f n v = ⊤
  | 0, _, h, _ => absurd h (Nat.not_lt_zero _)
  | n + 1, m, h, e => by
    show (if v = first (left f n) then ⊤ else left f n v) = ⊤
    split
    · rfl
    · next hne =>
      rcases Nat.lt_succ_iff_lt_or_eq.1 h with hm | hm
      · exact left_of_mem hm e
      · subst hm; exact absurd e.symm hne

theorem pick_fresh {f : Fin 512 → EReal} (hf : ∀ v, f v < ⊤) {m n : ℕ} (h : m < n) (hn : n < 512) : pick f m ≠ pick f n := by
  intro e
  obtain ⟨v, hv⟩ : ∃ v : Fin 512, v ∉ (Finset.range n).image (pick f) := by
    by_contra hc
    have hall : (Finset.range n).image (pick f) = Finset.univ := Finset.eq_univ_iff_forall.2 fun v => by
      by_contra hv
      exact hc ⟨v, hv⟩
    have := Finset.card_image_le (s := Finset.range n) (f := pick f)
    rw [hall, Finset.card_univ, Fintype.card_fin, Finset.card_range] at this
    omega
  have h1 : left f n v = f v := left_of_not fun k hk ek => hv (Finset.mem_image.2 ⟨k, Finset.mem_range.2 hk, ek⟩)
  have h2 : left f n (pick f n) ≤ left f n v := (first_spec (left f n)).1 v
  rw [left_of_mem h e, h1] at h2
  exact absurd (hf v) (not_lt.2 h2)

/-- The order of the picks: the lower value first, the lower place among equals. -/
def ahead (f : Fin 512 → EReal) (k k' : Fin 512) : Bool := decide (f k < f k') || (decide (f k = f k') && decide (k < k'))

theorem ahead_total (f : Fin 512 → EReal) : StrictTotalBefore (ahead f) :=
  StrictTotalBefore.of_key_then_position (fun a b : EReal => decide (a < b)) f (fun a => by simp) (fun a b c => by
    simp only [decide_eq_true_eq]
    exact lt_trans) (fun a b => by
    simp only [decide_eq_true_eq]
    exact lt_trichotomy a b)

theorem not_ahead {f : Fin 512 → EReal} {r : ℕ} {p : Fin 512} (hr : ∀ m, m < r → pick f m ≠ pick f r) (hp : ∀ m, m < r → pick f m ≠ p) :
    ahead f p (pick f r) = false := by
  have hs := first_spec (left f r)
  have h1 : left f r (pick f r) = f (pick f r) := left_of_not hr
  have h2 : left f r p = f p := left_of_not hp
  have hle : f (pick f r) ≤ f p := by rw [← h1, ← h2]; exact hs.1 p
  have hlt : p < pick f r → f (pick f r) < f p := fun h => by rw [← h1, ← h2]; exact hs.2 p h
  unfold ahead
  rw [Bool.or_eq_false_iff, Bool.and_eq_false_iff]
  refine ⟨decide_eq_false (not_lt.2 hle), ?_⟩
  by_cases h : p < pick f r
  · exact Or.inl (decide_eq_false (hlt h).ne')
  · exact Or.inr (decide_eq_false h)

/-- The sort's first sixteen places are the sixteen picks. -/
theorem sorted_pick {f : Fin 512 → EReal} (hf : ∀ v, f v < ⊤) (i : Fin 16) :
    sortedFrom (ahead f) (i.castLE (by decide)) = pick f i.val := by
  have hfr : ∀ {m n : ℕ}, m < n → n < 16 → pick f m ≠ pick f n := fun h hn => pick_fresh hf h (by omega)
  refine StrictTotalBefore.sortedFrom_eq_of_prefix (ahead_total f) (by decide) (fun j : Fin 16 => pick f j.val) ?_ ?_ ?_ i
  · intro a b e
    rcases lt_trichotomy a.val b.val with h | h | h
    · exact absurd e (hfr h b.isLt)
    · exact Fin.ext h
    · exact absurd e.symm (hfr h a.isLt)
  · intro a b h
    exact not_ahead (fun m hm => hfr hm a.isLt) fun m hm => hfr (hm.trans h) b.isLt
  · intro a p h
    exact not_ahead (fun m hm => hfr hm a.isLt) fun m hm => h ⟨m, hm.trans a.isLt⟩

/-- A stable sort by the value alone keeps the order of the places among equals. -/
theorem stable_place {n : ℕ} (R R' : Fin n → Fin n → Bool) (h : ∀ a b, a < b → R b a = R' b a) :
    ∀ l : List (Fin n), l.Pairwise (· < ·) → stableSort R l = stableSort R' l
  | [], _ => rfl
  | a :: l, hl => by
    show insertBefore R a (stableSort R l) = insertBefore R' a (stableSort R' l)
    rw [stable_place R R' h l (List.pairwise_cons.1 hl).2]
    refine insertBefore_congr R R' a _ fun b hb => h a b ?_
    exact (List.pairwise_cons.1 hl).1 b ((perm_stableSort R' l).mem_iff.1 hb)

theorem sorted_place {n : ℕ} (R R' : Fin n → Fin n → Bool) (h : ∀ a b, a < b → R b a = R' b a) (k : Fin n) :
    sortedFrom R k = sortedFrom R' k := by
  have e : sortPositions n R = sortPositions n R' := stable_place R R' h _ (List.pairwise_lt_finRange n)
  unfold sortedFrom
  exact List.get_of_eq e _

theorem sorted_lt_pick {f : Fin 512 → EReal} (hf : ∀ v, f v < ⊤) (R : Fin 512 → Fin 512 → Bool) (hR : ∀ a b, R a b = decide (f a < f b)) (i : Fin 16) :
    sortedFrom R (i.castLE (by decide)) = pick f i.val := by
  rw [sorted_place R (ahead f) (fun a b hab => ?_), sorted_pick hf]
  rw [hR]
  unfold ahead
  rw [decide_eq_false (not_lt.2 hab.le), Bool.and_false, Bool.or_false]

end Cert.Same

end
-- ==== Proof.Dist.lean ====
/- The distances of the kernel and of the reference are one function, where the centres are finite. -/
module

public import proofs.«01_k».proof.Proof.RefFun
public import proofs.«01_k».proof.Proof.KernelValue
public import proofs.«01_k».proof.Proof.Base

@[expose] public section

set_option maxRecDepth 16384

noncomputable section

namespace Cert.Same

open Idealize.ShloMosaic Cert.KernelIdeal Cert.KernelIdeal.Gen Cert.KernelIdeal.Value

/-- The matrix of ones on the diagonal. -/
abbrev eyeK : FVec Ideal S512x512 .f32 := k0_pay6

/-- The centres turned round, by a product with the diagonal matrix. -/
def turnK (c : FVec Ideal S512x6 .f32) : FVec Ideal S6x512 .f32 :=
  have e : FVec Ideal S512x512 .bf16 := truncf .bf16 eyeK bitsLt_bf16_f32
  have h : FVec Ideal S512x6 .f32 := extf .f32 (truncf .bf16 c bitsLt_bf16_f32) bitsLt_bf16_f32
  have d : FVec Ideal S512x6 .f32 := subf c h
  have g : FVec Ideal S512x6 .f32 := extf .f32 (truncf .bf16 d bitsLt_bf16_f32) bitsLt_bf16_f32
  have z : FVec Ideal S6x512 .f32 := constant S6x512 .f32 0x00000000#32
  addf (addf (matmul dot_S512x6_S512x512_S6x512_0_0_1_1_n_n none (truncf .bf16 h bitsLt_bf16_f32) e z)
    (matmul dot_S512x6_S512x512_S6x512_0_0_1_1_n_n none (truncf .bf16 g bitsLt_bf16_f32) e z))
    (matmul dot_S512x6_S512x512_S6x512_0_0_1_1_n_n none (truncf .bf16 (subf d g) bitsLt_bf16_f32) e z)

/-- The squared lengths of the centres. -/
def lenK (c : FVec Ideal S512x6 .f32) : FVec Ideal S1x512 .f32 :=
  shapeCast S1x512 (multiReduction .add [0] S512 (mulf (turnK c) (turnK c)) 0x00000000#32 reduces_S6x512_S512 (.inl rfl) rfl) shapeCasts_S512_S1x512

/-- The distances of a block. -/
def distK (c : FVec Ideal S512x6 .f32) (b : FVec Ideal S2048x6 .f32) : FVec Ideal S2048x512 .f32 :=
  addf (subf (broadcastTo S2048x512 (shapeCast S2048x1 (multiReduction .add [1] S2048 (mulf b b) 0x00000000#32 reduces_S2048x6_S2048 (.inl rfl) rfl) shapeCasts_S2048_S2048x1) broadcasts_S2048x1_S2048x512)
    (mulf (broadcast S2048x512 (Scalar.ofBits .f32 0x40000000#32 : Ideal .f32)) (matmul dot_S2048x6_S512x6_S2048x512_1_1_0_0_n_n none (truncf .bf16 b bitsLt_bf16_f32) (truncf .bf16 c bitsLt_bf16_f32) (constant S2048x512 .f32 0x00000000#32))))
    (broadcastTo S2048x512 (lenK c) broadcasts_S1x512_S2048x512)

/-- The marks of the nearest centre, from the distances. -/
def markK (d : FVec Ideal S2048x512 .f32) : FVec Ideal S2048x512 .bf16 :=
  have v1 : FVec Ideal S2048x512 .f32 := sitofp .f32 (iota .tc S2048x512 32 [1] iota_S2048x512_d1_w32)
  have v126 : IVec S2048x512 1 := cmpf .oeq d (broadcastTo S2048x512 (shapeCast S2048x1 (multiReduction .minimumf [1] S2048 d 0x7F800000#32 reduces_S2048x512_S2048 (.inl rfl) rfl) shapeCasts_S2048_S2048x1) broadcasts_S2048x1_S2048x512)
  have v128 : FVec Ideal S2048x512 .f32 := select v126 v1 (broadcast S2048x512 (Scalar.ofBits .f32 0x44000000#32))
  have v131 : FVec Ideal S2048x512 .f32 := broadcastTo S2048x512 (shapeCast S2048x1 (multiReduction .minimumf [1] S2048 v128 0x7F800000#32 reduces_S2048x512_S2048 (.inl rfl) rfl) shapeCasts_S2048_S2048x1) broadcasts_S2048x1_S2048x512
  truncf .bf16 (sitofp .f32 (extui 32 (cmpf .oeq v1 v131) natLt_1_32)) bitsLt_bf16_f32

theorem pay11_eq (c : FVec Ideal S512x6 .f32) (b : FVec Ideal S2048x6 .f32) : k0_pay11 c b = markK (distK c b) := by
  have hb : k0_pay10 b = b := shapeCast_self _ _
  unfold k0_pay11
  rw [hb]
  rfl

/-- The distances between the centres. -/
theorem pay15_eq (c : FVec Ideal S512x6 .f32) : k0_pay15 c =
    addf (subf (broadcastTo S512x512 (shapeCast S512x1 (multiReduction .add [1] S512 (mulf c c) 0x00000000#32 reduces_S512x6_S512 (.inl rfl) rfl) shapeCasts_S512_S512x1) broadcasts_S512x1_S512x512)
      (mulf (broadcast S512x512 (Scalar.ofBits .f32 0x40000000#32 : Ideal .f32)) (matmul dot_S512x6_S512x6_S512x512_1_1_0_0_n_n none (truncf .bf16 c bitsLt_bf16_f32) (truncf .bf16 c bitsLt_bf16_f32) (constant S512x512 .f32 0x00000000#32))))
      (broadcastTo S512x512 (lenK c) broadcasts_S1x512_S512x512) := rfl

/-- Entry `(k, j)` of the diagonal matrix. -/
theorem eye_at (k j : Fin 512) : eyeK (ix2 k j) = if k = j then 1 else 0 := by
  unfold eyeK k0_pay6 k0_pay5
  pointwise
  rw [cmpi_eq512, sitofp_bool]
  simp

theorem sum_eye (f : Fin 512 → EReal) (j : Fin 512) : ∑ x, f x * eyeK (ix2 x j) = f j := by
  rw [Finset.sum_eq_single j]
  · rw [eye_at, if_pos rfl, mul_one]
  · intro b _ hb
    rw [eye_at, if_neg hb, mul_zero]
  · intro h
    exact absurd (Finset.mem_univ j) h

/-- Turning finite centres round gives their transpose. -/
theorem turn_at {c : FVec Ideal S512x6 .f32} (hc : ∀ i, IsR (c i)) (a : Fin 6) (j : Fin 512) : turnK c (ix2 a j) = c (ix2 j a) := by
  unfold turnK
  pointwise
  rw [sum_eye (fun x => c (ix2 x a)), sum_eye (fun x => c (ix2 x a) - c (ix2 x a)), sum_eye (fun x => c (ix2 x a) - c (ix2 x a) - (c (ix2 x a) - c (ix2 x a)))]
  rw [(hc _).sub_self]
  simp

/-- The squared distance of a row `x` of six to a row `y`, as both programs write it. -/
def dist6 (x y : Fin 6 → EReal) : EReal := ∑ a, x a * x a - ((2 : ℝ) : EReal) * ∑ a, x a * y a + ∑ a, y a * y a

theorem dist6_real {x y : Fin 6 → EReal} (hx : ∀ a, IsR (x a)) (hy : ∀ a, IsR (y a)) : IsR (dist6 x y) :=
  ((IsR.sum _ _ fun a _ => (hx a).mul (hx a)).sub (IsR.mul ⟨2, rfl⟩ (IsR.sum _ _ fun a _ => (hx a).mul (hy a)))).add
    (IsR.sum _ _ fun a _ => (hy a).mul (hy a))

theorem dist_at {c : FVec Ideal S512x6 .f32} (hc : ∀ i, IsR (c i)) (b : FVec Ideal S2048x6 .f32) (r : Fin 2048) (j : Fin 512) :
    distK c b (ix2 r j) = dist6 (fun a => b (ix2 r a)) (fun a => c (ix2 j a)) := by
  unfold distK lenK dist6
  pointwise
  rw [bits_two]
  simp only [turn_at hc]

theorem pay15_at {c : FVec Ideal S512x6 .f32} (hc : ∀ i, IsR (c i)) (r : Fin 512) (j : Fin 512) :
    k0_pay15 c (ix2 r j) = dist6 (fun a => c (ix2 r a)) (fun a => c (ix2 j a)) := by
  rw [pay15_eq]
  unfold lenK dist6
  pointwise
  rw [bits_two]
  simp only [turn_at hc]

theorem sqd_at (c : FVec Ideal S512x6 .f32) (b : FVec Ideal S32768x6 .f32) (r : Fin 32768) (j : Fin 512) :
    Cert.ReferenceIdeal.Value.sqd b c (ix2 r j) = dist6 (fun a => b (ix2 r a)) (fun a => c (ix2 j a)) := by
  unfold Cert.ReferenceIdeal.Value.sqd dist6
  pointwise
  rw [bits_two]

theorem sqdC_at (c : FVec Ideal S512x6 .f32) (r : Fin 512) (j : Fin 512) :
    Cert.ReferenceIdeal.Value.sqdC c (ix2 r j) = dist6 (fun a => c (ix2 r a)) (fun a => c (ix2 j a)) := by
  unfold Cert.ReferenceIdeal.Value.sqdC dist6
  pointwise
  rw [bits_two]

/-- A row of the marks: one at the first least distance, zero elsewhere. -/
theorem mark_at (d : FVec Ideal S2048x512 .f32) (r : Fin 2048) (j : Fin 512) :
    markK d (ix2 r j) = if j = first (fun x => d (ix2 r x)) then 1 else 0 := by
  have hl := first_spec (fun x => d (ix2 r x))
  generalize first (fun x => d (ix2 r x)) = l at hl
  unfold markK
  pointwise
  have hs : ∀ x : Fin 512, (FloatOps.sitofp .f32 (BitVec.ofNat 32 x.val) : Ideal .f32) = ((x.val : ℝ) : EReal) := fun x => sitofp_small (by have := x.isLt; omega)
  rw [sitofp_bool]
  simp only [hs, bits_top, bits_512]
  rw [fold_min_first hl, fold_min_place hl]
  have e : (((j.val : ℝ)) : EReal) = (((l.val : ℝ)) : EReal) ↔ j = l := by
    rw [EReal.coe_eq_coe_iff, Nat.cast_inj]
    exact Fin.val_inj
  simp only [e, decide_eq_true_eq]

end Cert.Same

end
-- ==== Proof.Lab.lean ====
/- The reference's labels: the first least distance of each row. -/
module

public import proofs.«01_k».proof.Proof.RefFun
public import proofs.«01_k».proof.Proof.Base

@[expose] public section

set_option maxRecDepth 16384

noncomputable section

namespace Cert.Same

open Idealize.ShloMosaic Cert.ReferenceIdeal Cert.ReferenceIdeal.Gen Cert.ReferenceIdeal.Value

/-- A pair of a distance and a place comes before another. -/
def Pre (a b : EReal × BitVec 32) : Prop := a.1 < b.1 ∨ (a.1 = b.1 ∧ a.2.slt b.2 = true)

theorem Pre.asymm {a b : EReal × BitVec 32} (h : Pre a b) : ¬ Pre b a := by
  rintro (h' | ⟨e', s'⟩) <;> rcases h with h | ⟨e, s⟩
  · exact lt_asymm h h'
  · rw [e] at h'; exact lt_irrefl _ h'
  · rw [e'] at h; exact lt_irrefl _ h
  · rw [BitVec.slt_iff_toInt_lt] at s s'
    omega

/-- The reduction's body keeps the first of two pairs where it comes before, else the second. -/
theorem body_eq (a b : EReal × BitVec 32) : (Pre a b → reducer_argmin_f32_i32 (F := Ideal) a b = a) ∧ (¬ Pre a b → reducer_argmin_f32_i32 (F := Ideal) a b = b) := by
  obtain ⟨a1, a2⟩ := a
  obtain ⟨b1, b2⟩ := b
  have key : reducer_argmin_f32_i32 (F := Ideal) (a1, a2) (b1, b2)
      = (Scalar.select (IntOp.ori (BitVec.ofBool (decide (a1 < b1))) (BitVec.ofBool (decide (a1 ≠ a1)))) a1 b1,
        Scalar.select (IntOp.ori (IntOp.ori (BitVec.ofBool (decide (a1 < b1))) (BitVec.ofBool (decide (a1 ≠ a1))))
          (IntOp.andi (BitVec.ofBool (decide (a1 = b1))) (BitVec.ofBool (a2.slt b2)))) a2 b2) := rfl
  rw [key]
  unfold Pre
  rcases lt_trichotomy a1 b1 with h | h | h
  · simp [h, h.ne, Scalar.select, IntOp.ori, IntOp.andi]
  · subst h
    cases hs : a2.slt b2 <;> simp [hs, Scalar.select, IntOp.ori, IntOp.andi]
  · simp [h.ne', not_lt.2 h.le, Scalar.select, IntOp.ori, IntOp.andi]

/-- Over a list, the body ends at the pair that comes before all the others. -/
theorem foldl_body (q : EReal × BitVec 32) : ∀ (L : List (EReal × BitVec 32)) (a : EReal × BitVec 32), (a = q ∨ Pre q a) →
    (∀ p ∈ L, p = q ∨ Pre q p) → (a = q ∨ q ∈ L) → L.foldl (reducer_argmin_f32_i32 (F := Ideal)) a = q
  | [], a, _, _, h => by
    rcases h with h | h
    · exact h
    · cases h
  | p :: L, a, ha, hL, h => by
    have hp := hL p List.mem_cons_self
    rw [List.foldl_cons]
    by_cases hpre : Pre a p
    · rw [(body_eq a p).1 hpre]
      refine foldl_body q L a ha (fun r hr => hL r (List.mem_cons_of_mem p hr)) ?_
      rcases h with h | h
      · exact Or.inl h
      · rcases List.mem_cons.1 h with e | h
        · subst e
          rcases ha with ha | ha
          · exact Or.inl ha
          · exact absurd ha hpre.asymm
        · exact Or.inr h
    · rw [(body_eq a p).2 hpre]
      refine foldl_body q L p hp (fun r hr => hL r (List.mem_cons_of_mem p hr)) ?_
      rcases h with h | h
      · subst h
        rcases hp with hp | hp
        · exact Or.inl hp
        · exact absurd hp hpre
      · rcases List.mem_cons.1 h with e | h
        · exact Or.inl e.symm
        · exact Or.inr h

/-- The reduction over a table of any number of rows ends at the place of the row's first least entry. -/
theorem argmin_at {n : ℕ} {u : Shape} (hu : 0 < u.numel) (h : (⟨2, ![n, 512]⟩ : Shape).ReducesTo [1] ⟨1, ![n]⟩) (d : FVec Ideal ⟨2, ![n, 512]⟩ .f32)
    (y : IVec ⟨2, ![n, 512]⟩ 32) (hy : ∀ i k, y (ix2 i k) = BitVec.ofNat 32 k.val) (v : FVec Ideal u .f32) (hv : ∀ q, v q = (⊤ : EReal)) (w : IVec u 32)
    {i : Fin n} {l : Fin 512} (hl : IsFirst (fun j => d (ix2 i j)) l) (ht : d (ix2 i l) < (⊤ : EReal)) :
    (Host.argReduce (reducer_argmin_f32_i32 (F := Ideal)) d y v w h hu (ix1 i)).2 = BitVec.ofNat 32 l.val := by
  rw [Ideal.argReduce_eq_reduce2, Host.reduce2_eq_foldl_fiber]
  have hmem : ∀ p, p ∈ Host.argReduceFiber d y h (ix1 i) ↔ ∃ k : Fin 512, p = (d (ix2 i k), BitVec.ofNat 32 k.val) := by
    intro p
    unfold Host.argReduceFiber
    rw [List.mem_map]
    constructor
    · rintro ⟨m, hm, rfl⟩
      have h2 := of_decide_eq_true (List.mem_filter.1 hm).2
      obtain ⟨k, hk⟩ := (h.fiber_r2_a1 (ix1 i) _).1 h2
      refine ⟨k, ?_⟩
      rw [← hk]
      exact Prod.ext rfl (hy i k)
    · rintro ⟨k, rfl⟩
      refine ⟨(⟨2, ![n, 512]⟩ : Shape).rowMajor (ix2 i k), List.mem_filter.2 ⟨List.mem_finRange _, decide_eq_true ?_⟩, ?_⟩
      · rw [Equiv.symm_apply_apply]
        exact (h.fiber_r2_a1 (ix1 i) _).2 ⟨k, rfl⟩
      · rw [Equiv.symm_apply_apply, hy]
  have hf := foldl_body (d (ix2 i l), BitVec.ofNat 32 l.val) (Host.argReduceFiber d y h (ix1 i)) (v (Shape.Idx.first hu), w (Shape.Idx.first hu)) ?_ ?_ ?_
  · exact congrArg Prod.snd hf
  · refine Or.inr (Or.inl ?_)
    show d (ix2 i l) < v (Shape.Idx.first hu)
    rw [hv]
    exact ht
  · intro p hp
    obtain ⟨k, rfl⟩ := (hmem p).1 hp
    rcases lt_trichotomy k l with h | h | h
    · exact Or.inr (Or.inl (hl.2 k h))
    · subst h; exact Or.inl rfl
    · rcases lt_or_eq_of_le (hl.1 k) with hlt | he
      · exact Or.inr (Or.inl hlt)
      · refine Or.inr (Or.inr ⟨he, ?_⟩)
        rw [BitVec.slt_iff_toInt_lt, toInt512, toInt512]
        exact_mod_cast h
  · exact Or.inr ((hmem _).2 ⟨l, rfl⟩)

/-- The places of the first least entries of a table's rows. -/
def places {n : ℕ} {u : Shape} (hu : 0 < u.numel) (h : (⟨2, ![n, 512]⟩ : Shape).ReducesTo [1] ⟨1, ![n]⟩) (d : FVec Ideal ⟨2, ![n, 512]⟩ .f32)
    (y : IVec ⟨2, ![n, 512]⟩ 32) (v : FVec Ideal u .f32) (w : IVec u 32) : IVec ⟨1, ![n]⟩ 32 :=
  fun j => (Host.argReduce (reducer_argmin_f32_i32 (F := Ideal)) d y v w h hu j).2

theorem places_at {n : ℕ} {u : Shape} (hu : 0 < u.numel) (h : (⟨2, ![n, 512]⟩ : Shape).ReducesTo [1] ⟨1, ![n]⟩) (d : FVec Ideal ⟨2, ![n, 512]⟩ .f32)
    (y : IVec ⟨2, ![n, 512]⟩ 32) (hy : ∀ i k, y (ix2 i k) = BitVec.ofNat 32 k.val) (v : FVec Ideal u .f32) (hv : ∀ q, v q = (⊤ : EReal)) (w : IVec u 32)
    {i : Fin n} {l : Fin 512} (hl : IsFirst (fun j => d (ix2 i j)) l) (ht : d (ix2 i l) < (⊤ : EReal)) :
    places hu h d y v w (ix1 i) = BitVec.ofNat 32 l.val :=
  argmin_at hu h d y hy v hv w hl ht

theorem lab_eq (d : FVec Ideal S32768x512 .f32) : lab d = places h_S_ reducesTo_S32768x512_S32768_d1 d (iotaInDim S32768x512 32 1)
    (constant S_ .f32 0x7F800000#32) (constantI S_ 32 0#32) := rfl

/-- The label of point `i` is the place of its first least distance. -/
theorem lab_at {d : FVec Ideal S32768x512 .f32} {i : Fin 32768} {l : Fin 512} (hl : IsFirst (fun j => d (ix2 i j)) l) (ht : d (ix2 i l) < (⊤ : EReal)) :
    lab d (ix1 i) = BitVec.ofNat 32 l.val := by
  rw [lab_eq]
  exact places_at h_S_ reducesTo_S32768x512_S32768_d1 d (iotaInDim S32768x512 32 1) (fun _ _ => rfl) (constant S_ .f32 0x7F800000#32) (fun _ => bits_top)
    (constantI S_ 32 0#32) hl ht

end Cert.Same

end
-- ==== Proof.Scat.lean ====
/- The reference's scatters read at an entry: cluster sums, cluster counts, the incidence matrix. -/
module

public import proofs.«01_k».proof.Proof.RefFun
public import proofs.«01_k».proof.Proof.Base
public import Idealize.ShloMosaic.Lib.Routing.OpsSet

@[expose] public section

set_option maxRecDepth 16384

noncomputable section

namespace Cert.Same

open Idealize.ShloMosaic Cert.ReferenceIdeal Cert.ReferenceIdeal.Gen Cert.ReferenceIdeal.Value

theorem wrapL_at (l : IVec S32768 32) (i : Fin 32768) (t : Fin 512) (h : l (ix1 i) = BitVec.ofNat 32 t.val) : (wrapL l (ix2 i 0)).toInt = (t.val : ℤ) := by
  unfold wrapL
  pointwise
  rw [h, Routing.wrap_of_lt _ _ (by rw [BitVec.toNat_ofNat]; have := t.isLt; omega), toInt512]

theorem lands_sum (idx : IVec S32768x1 32) (i : Fin 32768) (b : Fin 6) (j : Fin 512) (a : Fin 6) :
    scatter_S512x6_S32768x1_S32768x6_1_0_0_1.resultIdx? (ix2 i b) idx = some (ix2 j a) ↔ (idx (ix2 i 0)).toInt = (j.val : ℤ) ∧ b = a := by
  rw [Routing.resultIdx?_eq_some]
  have h0 : scatter_S512x6_S32768x1_S32768x6_1_0_0_1.start (ix2 i b) idx 0 = (idx (ix2 i 0)).toInt := by
    unfold ScatterDims.start
    rw [dif_pos (by decide)]
    congr 2
    funext q
    apply Fin.ext
    match q with
    | ⟨0, _⟩ => rfl
    | ⟨1, _⟩ => rfl
  have h1 : scatter_S512x6_S32768x1_S32768x6_1_0_0_1.start (ix2 i b) idx 1 = 0 := by
    unfold ScatterDims.start
    rw [dif_neg (by decide)]
  have w0 : scatter_S512x6_S32768x1_S32768x6_1_0_0_1.window (ix2 i b) 0 = 0 := by
    unfold ScatterDims.window
    rw [dif_neg (by decide)]
  have w1 : scatter_S512x6_S32768x1_S32768x6_1_0_0_1.window (ix2 i b) 1 = b.val := by
    unfold ScatterDims.window
    rw [dif_pos (by decide)]
    rfl
  constructor
  · intro h
    have e0 := h 0
    have e1 := h 1
    rw [h0, w0] at e0
    rw [h1, w1] at e1
    have e0' : (idx (ix2 i 0)).toInt + 0 = (j.val : ℤ) := e0
    have e1' : (0 : ℤ) + (b.val : ℤ) = (a.val : ℤ) := e1
    exact ⟨by omega, Fin.ext (by omega)⟩
  · rintro ⟨e, rfl⟩ q
    match q with
    | ⟨0, _⟩ =>
      refine (congrArg₂ (fun (x : ℤ) (y : ℕ) => x + (y : ℤ)) h0 w0).trans ?_
      show (idx (ix2 i 0)).toInt + 0 = (j.val : ℤ)
      omega
    | ⟨1, _⟩ =>
      refine (congrArg₂ (fun (x : ℤ) (y : ℕ) => x + (y : ℤ)) h1 w1).trans ?_
      show (0 : ℤ) + (b.val : ℤ) = (b.val : ℤ)
      omega

theorem lands_cnt (idx : IVec S32768x1 32) (i : Fin 32768) (j : Fin 512) :
    scatter_S512_S32768x1_S32768_n_0_0_1.resultIdx? (ix1 i) idx = some (ix1 j) ↔ (idx (ix2 i 0)).toInt = (j.val : ℤ) := by
  rw [Routing.resultIdx?_eq_some]
  have h0 : scatter_S512_S32768x1_S32768_n_0_0_1.start (ix1 i) idx 0 = (idx (ix2 i 0)).toInt := by
    unfold ScatterDims.start
    rw [dif_pos (by decide)]
    congr 2
    funext q
    apply Fin.ext
    match q with
    | ⟨0, _⟩ => rfl
    | ⟨1, _⟩ => rfl
  have w0 : scatter_S512_S32768x1_S32768_n_0_0_1.window (ix1 i) 0 = 0 := by
    unfold ScatterDims.window
    rw [dif_neg (by decide)]
  constructor
  · intro h
    have e0 := h 0
    rw [h0, w0] at e0
    have e0' : (idx (ix2 i 0)).toInt + 0 = (j.val : ℤ) := e0
    omega
  · rintro e q
    match q with
    | ⟨0, _⟩ =>
      refine (congrArg₂ (fun (x : ℤ) (y : ℕ) => x + (y : ℤ)) h0 w0).trans ?_
      show (idx (ix2 i 0)).toInt + 0 = (j.val : ℤ)
      omega

theorem lands_inc (idx : IVec S8192x2 32) (i : Fin 8192) (r c : Fin 512) :
    scatter_S512x512_S8192x2_S8192_n_01_01_1.resultIdx? (ix1 i) idx = some (ix2 r c) ↔ (idx (ix2 i 0)).toInt = (r.val : ℤ) ∧ (idx (ix2 i 1)).toInt = (c.val : ℤ) := by
  rw [Routing.resultIdx?_eq_some]
  have h0 : scatter_S512x512_S8192x2_S8192_n_01_01_1.start (ix1 i) idx 0 = (idx (ix2 i 0)).toInt := by
    unfold ScatterDims.start
    rw [dif_pos (by decide)]
    congr 2
    funext q
    apply Fin.ext
    match q with
    | ⟨0, _⟩ => rfl
    | ⟨1, _⟩ => rfl
  have h1 : scatter_S512x512_S8192x2_S8192_n_01_01_1.start (ix1 i) idx 1 = (idx (ix2 i 1)).toInt := by
    unfold ScatterDims.start
    rw [dif_pos (by decide)]
    congr 2
    funext q
    apply Fin.ext
    match q with
    | ⟨0, _⟩ => rfl
    | ⟨1, _⟩ => rfl
  have w0 : ∀ q, scatter_S512x512_S8192x2_S8192_n_01_01_1.window (ix1 i) q = 0 := by
    intro q
    unfold ScatterDims.window
    rw [dif_neg (by revert q; decide)]
  constructor
  · intro h
    have e0 := h 0
    have e1 := h 1
    rw [h0, w0] at e0
    rw [h1, w0] at e1
    have e0' : (idx (ix2 i 0)).toInt + 0 = (r.val : ℤ) := e0
    have e1' : (idx (ix2 i 1)).toInt + 0 = (c.val : ℤ) := e1
    exact ⟨by omega, by omega⟩
  · rintro ⟨e, e'⟩ q
    match q with
    | ⟨0, _⟩ =>
      refine (congrArg₂ (fun (x : ℤ) (y : ℕ) => x + (y : ℤ)) h0 (w0 0)).trans ?_
      show (idx (ix2 i 0)).toInt + 0 = (r.val : ℤ)
      omega
    | ⟨1, _⟩ =>
      refine (congrArg₂ (fun (x : ℤ) (y : ℕ) => x + (y : ℤ)) h1 (w0 1)).trans ?_
      show (idx (ix2 i 1)).toInt + 0 = (c.val : ℤ)
      omega

theorem pair_eta {n m : ℕ} (k : (⟨2, ![n, m]⟩ : Shape).Idx) : ∃ (i : Fin n) (j : Fin m), k = ix2 i j :=
  ⟨k 0, k 1, funext fun q => Fin.ext (by
    match q with
    | ⟨0, _⟩ => rfl
    | ⟨1, _⟩ => rfl)⟩

theorem single_eta {n : ℕ} (k : (⟨1, ![n]⟩ : Shape).Idx) : ∃ i : Fin n, k = ix1 i :=
  ⟨k 0, funext fun q => Fin.ext (by
    match q with
    | ⟨0, _⟩ => rfl)⟩

/-- The sum of cluster `j`. -/
theorem sumsR_at (l : IVec S32768 32) (t : Fin 32768 → Fin 512) (h : ∀ i, l (ix1 i) = BitVec.ofNat 32 (t i).val) (p : FVec Ideal S32768x6 .f32) (j : Fin 512) (a : Fin 6) :
    sumsR l p (ix2 j a) = ∑ i : Fin 32768, if j = t i then p (ix2 i a) else 0 := by
  have hz : (broadcastInDim S512x6 ![] bcast_S_S512x6 (constant S_ .f32 0x00000000#32) : FVec Ideal S512x6 .f32) (ix2 j a) = 0 := by pointwise
  have e : sumsR l p (ix2 j a) = (broadcastInDim S512x6 ![] bcast_S_S512x6 (constant S_ .f32 0x00000000#32) : FVec Ideal S512x6 .f32) (ix2 j a)
      + ∑ k ∈ Finset.univ.filter (fun k => scatter_S512x6_S32768x1_S32768x6_1_0_0_1.resultIdx? k (wrapL l) = some (ix2 j a)), p k := rfl
  rw [e, hz, zero_add, ← Finset.sum_filter]
  symm
  refine Finset.sum_bij (fun i _ => ix2 i a) ?_ ?_ ?_ ?_
  · intro i hi
    refine Finset.mem_filter.2 ⟨Finset.mem_univ _, (lands_sum _ _ _ _ _).2 ⟨?_, rfl⟩⟩
    rw [wrapL_at l i (t i) (h i), (Finset.mem_filter.1 hi).2]
  · intro i _ i' _ q
    exact congrFun q 0
  · intro k hk
    obtain ⟨i, b, rfl⟩ := pair_eta k
    obtain ⟨h1, h2⟩ := (lands_sum _ _ _ _ _).1 (Finset.mem_filter.1 hk).2
    subst h2
    refine ⟨i, Finset.mem_filter.2 ⟨Finset.mem_univ _, ?_⟩, rfl⟩
    rw [wrapL_at l i (t i) (h i)] at h1
    exact Fin.ext (by omega)
  · intro i _
    rfl

/-- The number of points of cluster `j`. -/
theorem cntR_at (l : IVec S32768 32) (t : Fin 32768 → Fin 512) (h : ∀ i, l (ix1 i) = BitVec.ofNat 32 (t i).val) (j : Fin 512) :
    (cntR l : FVec Ideal S512 .f32) (ix1 j) = ∑ i : Fin 32768, if j = t i then 1 else 0 := by
  have hz : (broadcastInDim S512 ![] bcast_S_S512 (constant S_ .f32 0x00000000#32) : FVec Ideal S512 .f32) (ix1 j) = 0 := by pointwise
  have ho : ∀ i : Fin 32768, (broadcastInDim S32768 ![] bcast_S_S32768 (constant S_ .f32 0x3F800000#32) : FVec Ideal S32768 .f32) (ix1 i) = 1 := by
    intro i
    pointwise
  have e : (cntR l : FVec Ideal S512 .f32) (ix1 j) = (broadcastInDim S512 ![] bcast_S_S512 (constant S_ .f32 0x00000000#32) : FVec Ideal S512 .f32) (ix1 j)
      + ∑ k ∈ Finset.univ.filter (fun k => scatter_S512_S32768x1_S32768_n_0_0_1.resultIdx? k (wrapL l) = some (ix1 j)),
        (broadcastInDim S32768 ![] bcast_S_S32768 (constant S_ .f32 0x3F800000#32) : FVec Ideal S32768 .f32) k := rfl
  rw [e, hz, zero_add, ← Finset.sum_filter]
  symm
  refine Finset.sum_bij (fun i _ => ix1 i) ?_ ?_ ?_ ?_
  · intro i hi
    refine Finset.mem_filter.2 ⟨Finset.mem_univ _, (lands_cnt _ _ _).2 ?_⟩
    rw [wrapL_at l i (t i) (h i), (Finset.mem_filter.1 hi).2]
  · intro i _ i' _ q
    exact congrFun q 0
  · intro k hk
    obtain ⟨i, rfl⟩ := single_eta k
    have h1 := (lands_cnt _ _ _).1 (Finset.mem_filter.1 hk).2
    refine ⟨i, Finset.mem_filter.2 ⟨Finset.mem_univ _, ?_⟩, rfl⟩
    rw [wrapL_at l i (t i) (h i)] at h1
    exact Fin.ext (by omega)
  · intro i _
    exact (ho i).symm

end Cert.Same

end
-- ==== Proof.Step.lean ====
/- One clustering step of the kernel is one of the reference, where the points and the centres are finite. -/
module

public import proofs.«01_k».proof.Proof.Dist
public import proofs.«01_k».proof.Proof.Lab
public import proofs.«01_k».proof.Proof.Scat

@[expose] public section

set_option maxRecDepth 16384

noncomputable section

namespace Cert.Same

open Idealize.ShloMosaic Cert.KernelIdeal Cert.KernelIdeal.Gen Cert.KernelIdeal.Value

/-- The nearest centre of a point. -/
def near (p : FVec Ideal S32768x6 .f32) (c : FVec Ideal S512x6 .f32) (i : Fin 32768) : Fin 512 :=
  first fun j => dist6 (fun a => p (ix2 i a)) (fun a => c (ix2 j a))

/-- The sum of a cluster's points. -/
def total (p : FVec Ideal S32768x6 .f32) (c : FVec Ideal S512x6 .f32) (j : Fin 512) (a : Fin 6) : EReal :=
  ∑ i : Fin 32768, if j = near p c i then p (ix2 i a) else 0

/-- The number of a cluster's points. -/
def count (p : FVec Ideal S32768x6 .f32) (c : FVec Ideal S512x6 .f32) (j : Fin 512) : EReal :=
  ∑ i : Fin 32768, if j = near p c i then 1 else 0

/-! ## The reference -/

section Ref

open Cert.ReferenceIdeal.Value

theorem lab_near {p : FVec Ideal S32768x6 .f32} {c : FVec Ideal S512x6 .f32} (hp : ∀ i, IsR (p i)) (hc : ∀ i, IsR (c i)) (i : Fin 32768) :
    lab (sqd p c) (ix1 i) = BitVec.ofNat 32 (near p c i).val := by
  have h : (fun j => sqd p c (ix2 i j)) = fun j => dist6 (fun a => p (ix2 i a)) (fun a => c (ix2 j a)) := funext fun j => sqd_at c p i j
  apply lab_at
  · rw [h]; exact first_spec _
  · rw [sqd_at]
    exact (dist6_real (fun a => hp _) fun a => hc _).lt_top

/-- The new centre from a cluster's sum and count. -/
theorem keep_at (l : IVec Cert.ReferenceIdeal.S32768 32) (p : FVec Ideal S32768x6 .f32) (c : FVec Ideal S512x6 .f32) (j : Fin 512) (a : Fin 6) (S N : EReal)
    (hs : sumsR l p (ix2 j a) = S) (hn : (cntR l : FVec Ideal Cert.ReferenceIdeal.S512 .f32) (ix1 j) = N) :
    keepR (occR (cntR l : FVec Ideal Cert.ReferenceIdeal.S512 .f32)) (meansR l p) c (ix2 j a) = if 0 < N then Ideal.div S (max N 1) else c (ix2 j a) := by
  unfold meansR
  generalize sumsR l p = s at hs
  generalize (cntR l : FVec Ideal Cert.ReferenceIdeal.S512 .f32) = n at hn
  unfold keepR occR atLeastOne
  pointwise
  rw [hs, hn]

theorem stepR_eq (p : FVec Ideal S32768x6 .f32) (c : FVec Ideal S512x6 .f32) :
    stepR p c = keepR (occR (cntR (lab (sqd p c)) : FVec Ideal Cert.ReferenceIdeal.S512 .f32)) (meansR (lab (sqd p c)) p) c := rfl

theorem stepR_at {p : FVec Ideal S32768x6 .f32} {c : FVec Ideal S512x6 .f32} (hp : ∀ i, IsR (p i)) (hc : ∀ i, IsR (c i)) (j : Fin 512) (a : Fin 6) :
    stepR p c (ix2 j a) = if 0 < count p c j then Ideal.div (total p c j a) (max (count p c j) 1) else c (ix2 j a) := by
  rw [stepR_eq]
  have hl := lab_near hp hc
  generalize lab (sqd p c) = l at hl
  exact keep_at l p c j a _ _ (sumsR_at l (near p c) hl p j a) (cntR_at l (near p c) hl j)

end Ref

/-! ## The kernel -/

theorem total_real {p : FVec Ideal S32768x6 .f32} (c : FVec Ideal S512x6 .f32) (hp : ∀ i, IsR (p i)) (j : Fin 512) (a : Fin 6) : IsR (total p c j a) :=
  IsR.sum _ _ fun i _ => (hp _).ite IsR.zero

theorem count_real (p : FVec Ideal S32768x6 .f32) (c : FVec Ideal S512x6 .f32) (j : Fin 512) : IsR (count p c j) :=
  IsR.sum _ _ fun i _ => IsR.one.ite IsR.zero

/-- One block of points added to the sums. -/
theorem pay12_at {c : FVec Ideal S512x6 .f32} {b : FVec Ideal S2048x6 .f32} (hc : ∀ i, IsR (c i)) (hb : ∀ i, IsR (b i)) (s : FVec Ideal S512x6 .f32) (j : Fin 512) (a : Fin 6) :
    k0_pay12 c s b (ix2 j a) = s (ix2 j a) + ∑ x : Fin 2048, if j = first (fun k => dist6 (fun a => b (ix2 x a)) (fun a => c (ix2 k a))) then b (ix2 x a) else 0 := by
  have h10 : k0_pay10 b = b := shapeCast_self _ _
  unfold k0_pay12
  rw [h10]
  have ho : ∀ x : Fin 2048, k0_pay11 c b (ix2 x j) = if j = first (fun k => dist6 (fun a => b (ix2 x a)) (fun a => c (ix2 k a))) then 1 else 0 := by
    intro x
    rw [pay11_eq, mark_at]
    simp only [dist_at hc]
  generalize k0_pay11 c b = o at ho
  pointwise
  have hz : ∀ x : Fin 2048, b (ix2 x a) - b (ix2 x a) = (0 : EReal) := fun x => (hb _).sub_self
  simp only [hz, sub_zero, mul_zero, Finset.sum_const_zero, add_zero, ho, ite_mul, one_mul, zero_mul]

/-- One block of points added to the counts. -/
theorem pay13_at {c : FVec Ideal S512x6 .f32} (hc : ∀ i, IsR (c i)) (b : FVec Ideal S2048x6 .f32) (n : FVec Ideal S512x1 .f32) (j : Fin 512) :
    k0_pay13 c n b (ix2 j 0) = n (ix2 j 0) + ∑ x : Fin 2048, if j = first (fun k => dist6 (fun a => b (ix2 x a)) (fun a => c (ix2 k a))) then 1 else 0 := by
  unfold k0_pay13
  have ho : ∀ x : Fin 2048, k0_pay11 c b (ix2 x j) = if j = first (fun k => dist6 (fun a => b (ix2 x a)) (fun a => c (ix2 k a))) then 1 else 0 := by
    intro x
    rw [pay11_eq, mark_at]
    simp only [dist_at hc]
  generalize k0_pay11 c b = o at ho
  pointwise
  simp only [ho]

/-- Row `x` of block `k` is point `2048 k + x`. -/
theorem blk_at (p : Vec Ideal S32768x6 .f32) (k : Fin k0_t2_loop.trips) (x : Fin 2048) (a : Fin 6) (h : 2048 * k.val + x.val < 32768) :
    blkK p k (ix2 x a) = p (ix2 ⟨2048 * k.val + x.val, h⟩ a) := by
  unfold blkK
  show p ((Rect.unit (s := S32768x6) (k0_off1 k) S2048x6.size (k0_off1_inb k)).idx (ix2 x a)) = _
  congr 1
  funext q
  apply Fin.ext
  have e : ∀ k : Fin k0_t2_loop.trips, k0_off1 k = ![2048 * k.val, 0] := by decide
  match q with
  | ⟨0, _⟩ =>
    show k0_off1 k 0 + 1 * x.val = 2048 * k.val + x.val
    rw [e]
    show 2048 * k.val + 1 * x.val = _
    omega
  | ⟨1, _⟩ =>
    show k0_off1 k 1 + 1 * a.val = a.val
    rw [e]
    show 0 + 1 * a.val = _
    omega

/-- A point's share of a sum, by its number. -/
def share (f : Fin 32768 → EReal) (i : ℕ) : EReal := if h : i < 32768 then f ⟨i, h⟩ else 0

theorem sum_share (f : Fin 32768 → EReal) : ∑ i ∈ Finset.range 32768, share f i = ∑ i, f i := by
  rw [Finset.sum_range]
  exact Finset.sum_congr rfl fun i _ => dif_pos i.isLt

theorem sum_block (f : Fin 32768 → EReal) (k : ℕ) (hk : k < 16) (g : Fin 2048 → EReal) (hg : ∀ (x : Fin 2048) (h : 2048 * k + x.val < 32768), g x = f ⟨2048 * k + x.val, h⟩) :
    ∑ i ∈ Finset.range (2048 * k), share f i + ∑ x, g x = ∑ i ∈ Finset.range (2048 * (k + 1)), share f i := by
  have e : 2048 * (k + 1) = 2048 * k + 2048 := by omega
  rw [e, Finset.sum_range_add, Finset.sum_range (n := 2048)]
  congr 1
  refine Finset.sum_congr rfl fun x _ => ?_
  have h : 2048 * k + x.val < 32768 := by have := x.isLt; omega
  rw [hg x h]
  unfold share
  rw [dif_pos h]

theorem accK_at {p : FVec Ideal S32768x6 .f32} {c : FVec Ideal S512x6 .f32} (hp : ∀ i, IsR (p i)) (hc : ∀ i, IsR (c i)) (j : Fin 512) : ∀ n : ℕ, n ≤ 16 →
    (∀ a, (accK p c n).1 (ix2 j a) = ∑ i ∈ Finset.range (2048 * n), share (fun i => if j = near p c i then p (ix2 i a) else 0) i)
      ∧ (accK p c n).2 (ix2 j 0) = ∑ i ∈ Finset.range (2048 * n), share (fun i => if j = near p c i then 1 else 0) i
  | 0, _ => by
    constructor
    · intro a
      show k0_pay8 (F := Ideal) (ix2 j a) = _
      unfold k0_pay8
      pointwise
      simp
    · show k0_pay9 (F := Ideal) (ix2 j 0) = _
      unfold k0_pay9
      pointwise
      simp
  | n + 1, hn => by
    obtain ⟨h1, h2⟩ := accK_at hp hc j n (by omega)
    have ht : n < k0_t2_loop.trips := by
      have : k0_t2_loop.trips = 16 := by decide
      omega
    have e : accK p c (n + 1) = (k0_pay12 c (accK p c n).1 (blkK p ⟨n, ht⟩), k0_pay13 c (accK p c n).2 (blkK p ⟨n, ht⟩)) := dif_pos ht
    have hb : ∀ i : S2048x6.Idx, IsR (blkK (F := Ideal) p ⟨n, ht⟩ i) := fun i => hp ((Rect.unit (s := S32768x6) (k0_off1 ⟨n, ht⟩) S2048x6.size (k0_off1_inb ⟨n, ht⟩)).idx i)
    rw [e]
    have hrow : ∀ (x : Fin 2048) (h : 2048 * n + x.val < 32768), first (fun k => dist6 (fun a => blkK (F := Ideal) p ⟨n, ht⟩ (ix2 x a)) (fun a => c (ix2 k a))) = near p c ⟨2048 * n + x.val, h⟩ := by
      intro x h
      unfold near
      congr 1
      funext k
      congr 1
      funext a
      exact blk_at p ⟨n, ht⟩ x a h
    constructor
    · intro a
      show k0_pay12 c (accK p c n).1 (blkK p ⟨n, ht⟩) (ix2 j a) = _
      rw [pay12_at hc hb, h1 a]
      refine sum_block _ n (by omega) _ fun x h => ?_
      rw [hrow x h, blk_at p ⟨n, ht⟩ x a h]
    · show k0_pay13 c (accK p c n).2 (blkK p ⟨n, ht⟩) (ix2 j 0) = _
      rw [pay13_at hc, h2]
      refine sum_block _ n (by omega) _ fun x h => ?_
      rw [hrow x h]

theorem stepK_at {p : FVec Ideal S32768x6 .f32} {c : FVec Ideal S512x6 .f32} (hp : ∀ i, IsR (p i)) (hc : ∀ i, IsR (c i)) (j : Fin 512) (a : Fin 6) :
    stepK p c (ix2 j a) = if 0 < count p c j then Ideal.div (total p c j a) (max (count p c j) 1) else c (ix2 j a) := by
  obtain ⟨h1, h2⟩ := accK_at hp hc j 16 le_rfl
  have h1 := h1 a
  rw [sum_share] at h1 h2
  unfold stepK
  generalize (accK p c 16).1 = s at h1
  generalize (accK p c 16).2 = n at h2
  unfold k0_pay14
  pointwise
  rw [h1, h2]
  rfl

/-! ## Seven steps -/

theorem step_eq {p : FVec Ideal S32768x6 .f32} {c : FVec Ideal S512x6 .f32} (hp : ∀ i, IsR (p i)) (hc : ∀ i, IsR (c i)) :
    stepK p c = Cert.ReferenceIdeal.Value.stepR p c := by
  funext i
  obtain ⟨j, a, rfl⟩ := pair_eta i
  rw [stepK_at hp hc, stepR_at hp hc]

theorem step_real {p : FVec Ideal S32768x6 .f32} {c : FVec Ideal S512x6 .f32} (hp : ∀ i, IsR (p i)) (hc : ∀ i, IsR (c i)) (i : S512x6.Idx) : IsR (stepK p c i) := by
  obtain ⟨j, a, rfl⟩ := pair_eta i
  rw [stepK_at hp hc]
  exact ((total_real c hp j a).div_max (count_real p c j)).ite (hc _)

theorem steps_eq {p : FVec Ideal S32768x6 .f32} (hp : ∀ i, IsR (p i)) {c : FVec Ideal S512x6 .f32} (hc : ∀ i, IsR (c i)) (n : ℕ) :
    (stepK p)^[n] c = (Cert.ReferenceIdeal.Value.stepR p)^[n] c ∧ ∀ i, IsR ((stepK p)^[n] c i) := by
  induction n with
  | zero =>
    rw [Function.iterate_zero_apply, Function.iterate_zero_apply]
    exact ⟨rfl, hc⟩
  | succ n ih =>
    obtain ⟨h1, h2⟩ := ih
    rw [Function.iterate_succ_apply', Function.iterate_succ_apply']
    refine ⟨?_, step_real hp h2⟩
    rw [step_eq hp h2, h1]

end Cert.Same

end
-- ==== Proof.Picks.lean ====
/- The kernel's sixteen rounds and the reference's sorted neighbours mark the same entries. -/
module

public import proofs.«01_k».proof.Proof.Scat
public import proofs.«01_k».proof.Proof.KernelValue

@[expose] public section

set_option maxRecDepth 16384

noncomputable section

namespace Cert.Same

open Idealize.ShloMosaic Cert.KernelIdeal Cert.KernelIdeal.Gen Cert.KernelIdeal.Value

/-! ## The kernel's rounds -/

/-- The mark of a round at row `i`: the first least entry. -/
theorem pay1_at (d : FVec Ideal S512x512 .f32) (i j : Fin 512) :
    k0_pay1 colK d (ix2 i j) = BitVec.ofBool (decide (j = first fun v => d (ix2 i v))) := by
  have hl := first_spec (fun v => d (ix2 i v))
  generalize first (fun v => d (ix2 i v)) = l at hl
  unfold k0_pay1
  pointwise
  rw [bits_top, fold_min_first hl, fold_minsi_place hl, cmpi_eq512]

theorem pay2_at (h d : FVec Ideal S512x512 .f32) (i j : Fin 512) :
    k0_pay2 colK h d (ix2 i j) = if j = first (fun v => d (ix2 i v)) then 1 else h (ix2 i j) := by
  unfold k0_pay2
  have e := pay1_at d i j
  generalize k0_pay1 colK d = o at e
  pointwise
  rw [e]
  by_cases q : j = first (fun v => d (ix2 i v)) <;> simp [q, Scalar.select]

theorem pay3_at (d : FVec Ideal S512x512 .f32) (i j : Fin 512) :
    k0_pay3 colK d (ix2 i j) = if j = first (fun v => d (ix2 i v)) then (⊤ : EReal) else d (ix2 i j) := by
  unfold k0_pay3
  have e := pay1_at d i j
  generalize k0_pay1 colK d = o at e
  pointwise
  rw [e, bits_top]
  by_cases q : j = first (fun v => d (ix2 i v)) <;> simp [q, Scalar.select]

theorem pickK_fst (s : FVec Ideal S512x512 .f32 × FVec Ideal S512x512 .f32) : (pickK s).1 = k0_pay2 colK s.1 s.2 := by unfold pickK; dsimp only
theorem pickK_snd (s : FVec Ideal S512x512 .f32 × FVec Ideal S512x512 .f32) : (pickK s).2 = k0_pay3 colK s.2 := by unfold pickK; dsimp only

/-- Whether entry `v` is among the first `n` picks of a row. -/
def Picked (f : Fin 512 → EReal) (n : ℕ) (v : Fin 512) : Prop := ∃ m, m < n ∧ pick f m = v

/-- The marks and the distances left after `n` rounds. -/
theorem rounds_at (d : FVec Ideal S512x512 .f32) (n : ℕ) : ∀ i : Fin 512,
    (∀ j, (Picked (fun v => d (ix2 i v)) n j → (pickK^[n] (k0_pay16, d)).1 (ix2 i j) = (1 : EReal))
      ∧ (¬ Picked (fun v => d (ix2 i v)) n j → (pickK^[n] (k0_pay16, d)).1 (ix2 i j) = (0 : EReal)))
      ∧ (fun j => (pickK^[n] (k0_pay16, d)).2 (ix2 i j)) = left (fun v => d (ix2 i v)) n := by
  induction n with
  | zero =>
    intro i
    rw [Function.iterate_zero_apply]
    refine ⟨fun j => ⟨fun ⟨m, hm, _⟩ => absurd hm (Nat.not_lt_zero m), fun _ => ?_⟩, rfl⟩
    show k0_pay16 (F := Ideal) (ix2 i j) = 0
    unfold k0_pay16
    pointwise
  | succ n ih =>
    intro i
    obtain ⟨h1, h2⟩ := ih i
    rw [Function.iterate_succ_apply']
    generalize pickK^[n] (k0_pay16, d) = s at h1 h2 ⊢
    have e1 : ∀ j, (pickK s).1 (ix2 i j) = if j = pick (fun v => d (ix2 i v)) n then (1 : EReal) else s.1 (ix2 i j) := by
      intro j
      rw [pickK_fst, pay2_at, h2, pick_eq]
    have e2 : ∀ j, (pickK s).2 (ix2 i j) = if j = pick (fun v => d (ix2 i v)) n then (⊤ : EReal) else s.2 (ix2 i j) := by
      intro j
      rw [pickK_snd, pay3_at, h2, pick_eq]
    refine ⟨fun j => ⟨?_, ?_⟩, ?_⟩
    · rintro ⟨m, hm, hj⟩
      rw [e1]
      split
      · rfl
      · next hne =>
        refine (h1 j).1 ⟨m, ?_, hj⟩
        rcases Nat.lt_succ_iff_lt_or_eq.1 hm with h | h
        · exact h
        · subst h; exact absurd hj.symm hne
    · intro hn
      rw [e1, if_neg fun e => hn ⟨n, Nat.lt_succ_self n, e.symm⟩]
      exact (h1 j).2 fun ⟨m, hm, hj⟩ => hn ⟨m, Nat.lt_succ_of_lt hm, hj⟩
    · funext j
      rw [e2, left_succ, show s.2 (ix2 i j) = left (fun v => d (ix2 i v)) n j from congrFun h2 j]

/-! ## The reference's neighbours -/

section Ref

open Cert.ReferenceIdeal.Value

/-- A sorted prefix read at an entry: the place that the sort brings there. -/
theorem topK_at {n m k : ℕ} {α : Type} (gt : α → α → BitVec 1) (x : (⟨2, ![n, m]⟩ : Shape).Idx → α)
    (h : (⟨2, ![n, m]⟩ : Shape).Slices (fun _ => 0) ⟨2, ![n, k]⟩) (hk : k ≤ m) (i : Fin n) (r : Fin k) :
    (Host.topK ⟨2, ![n, k]⟩ 1 gt x h).2 (ix2 i r) = BitVec.ofNat 32 (sortedFrom (fun a b : Fin m => gt (x (ix2 i a)) (x (ix2 i b)) == 1#1) (r.castLE hk)).val := by
  have hlt : 1 < (⟨2, ![n, m]⟩ : Shape).rank := by show 1 < 2; decide
  have ha : ∀ a : Fin ((⟨2, ![n, m]⟩ : Shape).size ⟨1, hlt⟩), Shape.Idx.along (ix2 i (r.castLE hk)) ⟨1, hlt⟩ a = ix2 i a := by
    intro a
    funext q
    match q with
    | ⟨0, _⟩ => rfl
    | ⟨1, _⟩ => rfl
  unfold Host.topK extractStridedSlice
  dsimp only
  have hJ : (fun a : Fin (⟨2, ![n, m]⟩ : Shape).rank => (⟨0 + ((ix2 i r : (⟨2, ![n, k]⟩ : Shape).Idx) (a.cast h.1.symm)).val,
      Nat.lt_of_lt_of_le (Nat.add_lt_add_left ((ix2 i r : (⟨2, ![n, k]⟩ : Shape).Idx) _).isLt _) (h.2 a)⟩ : Fin ((⟨2, ![n, m]⟩ : Shape).size a))) = ix2 i (r.castLE hk) := by
    funext q
    apply Fin.ext
    match q with
    | ⟨0, _⟩ => show 0 + i.val = i.val; omega
    | ⟨1, _⟩ => show 0 + r.val = r.val; omega
  rw [hJ]
  unfold Host.sort2
  rw [dif_pos hlt]
  dsimp only
  simp only [ha]
  rfl

/-- Neighbour `r` of row `i` is the row's pick `r`. -/
theorem nbrR_at (d : FVec Ideal S512x512 .f32) (hd : ∀ i, IsR (d i)) (i : Fin 512) (r : Fin 16) :
    nbrR d (ix2 i r) = BitVec.ofNat 32 (pick (fun v => d (ix2 i v)) r.val).val := by
  have hs := sorted_lt_pick (f := fun v => d (ix2 i v)) (fun v => (hd _).lt_top)
    (fun k k' => FloatOps.cmpfTotal (F := Ideal) (φ := .f32) .gt (Host.negf d (ix2 i k)) (Host.negf d (ix2 i k')) == 1#1) (fun a b => by
      show (BitVec.ofBool (decide (-(d (ix2 i b) : EReal) < -(d (ix2 i a) : EReal))) == 1#1) = _
      simp only [EReal.neg_lt_neg_iff]
      by_cases h : (d (ix2 i a) : EReal) < d (ix2 i b) <;> simp [h]) r
  rw [← hs]
  exact topK_at (FloatOps.cmpfTotal (F := Ideal) (φ := .f32) .gt) (Host.negf d) _ (by decide) i r

/-- Entry `(v, e)` of the incidence matrix marks that `v` is among the picks of row `e`. -/
theorem incR_at (d : FVec Ideal S512x512 .f32) (hd : ∀ i, IsR (d i)) (v e : Fin 512) :
    (Picked (fun v => d (ix2 e v)) 16 v → (incR (rowsR (nbrR d)) colsR : FVec Ideal S512x512 .f32) (ix2 v e) = (1 : EReal))
      ∧ (¬ Picked (fun v => d (ix2 e v)) 16 v → (incR (rowsR (nbrR d)) colsR : FVec Ideal S512x512 .f32) (ix2 v e) = (0 : EReal)) := by
  have hrow : ∀ i : Fin 8192, rowsR (nbrR d) (ix1 i) = BitVec.ofNat 32 (pick (fun v => d (ix2 ⟨i.val / 16, by omega⟩ v)) (i.val % 16)).val := by
    intro i
    rw [← nbrR_at d hd ⟨i.val / 16, by omega⟩ ⟨i.val % 16, by omega⟩]
    generalize nbrR d = nb
    unfold rowsR
    pointwise
  have hcol : ∀ i : Fin 8192, colsR (ix1 i) = BitVec.ofNat 32 (⟨i.val / 16, by omega⟩ : Fin 512).val := by
    intro i
    unfold colsR
    pointwise
  generalize rowsR (nbrR d) = r at hrow
  generalize colsR = c at hcol
  unfold incR
  have w : ∀ (q : IVec Cert.ReferenceIdeal.S8192 32) (i : Fin 8192) (t : Fin 512), q (ix1 i) = BitVec.ofNat 32 t.val →
      (Scalar.select (IntOp.cmpi .slt (q (ix1 i)) 0#32) (IntOp.addi (q (ix1 i)) 512#32) (q (ix1 i))).toInt = (t.val : ℤ) := by
    intro q i t h
    rw [h, Routing.wrap_of_lt _ _ (by rw [BitVec.toNat_ofNat]; have := t.isLt; omega), toInt512]
  have hl : ∀ i : Fin 8192, Cert.ReferenceIdeal.scatter_S512x512_S8192x2_S8192_n_01_01_1.resultIdx? (ix1 i)
      (concatenate Cert.ReferenceIdeal.S8192x2 1 [⟨Cert.ReferenceIdeal.S8192x1, broadcastInDim Cert.ReferenceIdeal.S8192x1 ![0] Cert.ReferenceIdeal.Gen.bcast_S8192_S8192x1_0 (wrap8 r)⟩, ⟨Cert.ReferenceIdeal.S8192x1, broadcastInDim Cert.ReferenceIdeal.S8192x1 ![0] Cert.ReferenceIdeal.Gen.bcast_S8192_S8192x1_0 (wrap8 c)⟩] Cert.ReferenceIdeal.Gen.concatenates_S8192x1_S8192x1_S8192x2_d1)
      = some (ix2 v e) ↔ pick (fun v => d (ix2 ⟨i.val / 16, by omega⟩ v)) (i.val % 16) = v ∧ (⟨i.val / 16, by omega⟩ : Fin 512) = e := by
    intro i
    rw [lands_inc]
    have h0 := w r i _ (hrow i)
    have h1 := w c i _ (hcol i)
    unfold wrap8
    pointwise
    rw [h0, h1]
    constructor
    · rintro ⟨a, b⟩
      exact ⟨Fin.ext (by omega), Fin.ext (by exact_mod_cast b)⟩
    · rintro ⟨a, b⟩
      rw [a, b]
      exact ⟨rfl, rfl⟩
  constructor
  · rintro ⟨m, hm, hv⟩
    have hi : 16 * e.val + m < 8192 := by have := e.isLt; omega
    have hd1 : (16 * e.val + m) / 16 = e.val := by omega
    have hd2 : (16 * e.val + m) % 16 = m := by omega
    refine Routing.scatter_set_hit _ _ _ _ _ _ (fun k _ => ?_) (ix1 ⟨16 * e.val + m, hi⟩) ((hl _).2 ?_)
    · obtain ⟨i, rfl⟩ := single_eta k
      pointwise
    · simp only [hd1, hd2]
      exact ⟨hv, trivial⟩
  · intro hn
    rw [Routing.scatter_set_miss]
    · pointwise
    · intro k hk
      obtain ⟨i, rfl⟩ := single_eta k
      obtain ⟨a, b⟩ := (hl i).1 hk
      refine hn ⟨i.val % 16, by omega, ?_⟩
      rw [b] at a
      exact a

end Ref

end Cert.Same

end
-- ==== Proof.Hyper.lean ====
/- The hypergraph stage of the kernel is that of the reference, where the centres are finite. -/
module

public import proofs.«01_k».proof.Proof.Dist
public import proofs.«01_k».proof.Proof.Picks

@[expose] public section

set_option maxRecDepth 16384

noncomputable section

namespace Cert.Same

open Idealize.ShloMosaic Cert.KernelIdeal Cert.KernelIdeal.Gen Cert.KernelIdeal.Value
open Cert.ReferenceIdeal.Value (sqdC nbrR rowsR colsR incR isoR diagR hypR edgeR outR hyperR atLeastOne)

theorem uitofp_bool (b : Bool) : (FloatOps.uitofp .f32 (BitVec.ofBool b) : Ideal .f32) = (if b = true then 1 else 0 : EReal) := by
  show (((BitVec.ofBool b).toNat : ℝ) : EReal) = _
  cases b <;> simp

theorem hypR_at (H : FVec Ideal S512x512 .f32) (i j : Fin 512) :
    hypR H (diagR (isoR H)) (ix2 i j) = H (ix2 i j) + if i = j ∧ ∑ x, H (ix2 i x) = (0 : EReal) then (1 : EReal) else 0 := by
  unfold hypR diagR isoR
  pointwise
  have e : IntOp.addi (BitVec.ofNat 32 i.val) 0#32 = BitVec.ofNat 32 i.val := BitVec.add_zero _
  rw [e, cmpi_eq512, uitofp_bool]
  by_cases q : i = j
  · by_cases z : ∑ x, H (ix2 i x) = (0 : EReal) <;> simp [q, z, Scalar.select]
  · simp [q, Scalar.select]

/-- An isolated vertex's mark put on the diagonal by a choice, or by a sum: the same matrix, turned round. -/
theorem joined_at (h H : FVec Ideal S512x512 .f32) (hh : ∀ e v, h (ix2 e v) = H (ix2 v e)) (h0 : ∀ v e, H (ix2 v e) = (0 : EReal) ∨ H (ix2 v e) = (1 : EReal)) (x i : Fin 512) :
    Scalar.select (IntOp.andi (IntOp.cmpi .eq (BitVec.ofNat 32 x.val) (BitVec.ofNat 32 i.val)) (BitVec.ofBool (decide (∑ x, h (ix2 x i) = (0 : EReal))))) (1 : EReal) (h (ix2 x i))
      = hypR H (diagR (isoR H)) (ix2 i x) := by
  rw [hypR_at, cmpi_eq512]
  simp only [hh]
  by_cases q : x = i
  · subst q
    by_cases z : ∑ y, H (ix2 x y) = (0 : EReal)
    · have hn : ∀ y ∈ (Finset.univ : Finset (Fin 512)), (0 : EReal) ≤ H (ix2 x y) := by
        intro y _
        rcases h0 x y with e | e <;> rw [e]
        exact zero_le_one
      have hz : H (ix2 x x) = (0 : EReal) := (Finset.sum_eq_zero_iff_of_nonneg hn).1 z x (Finset.mem_univ x)
      simp [z, hz, Scalar.select, IntOp.andi]
    · simp [z, Scalar.select, IntOp.andi]
  · have q' : ¬ i = x := fun e => q e.symm
    simp [q, q', Scalar.select, IntOp.andi]

theorem edgeR_at (H : FVec Ideal S512x512 .f32) (c : FVec Ideal S512x6 .f32) (i : Fin 512) (a : Fin 6) :
    edgeR H c (ix2 i a) = Ideal.div (∑ x, H (ix2 x i) * c (ix2 x a)) (max (∑ x, H (ix2 x i)) 1) := by
  unfold edgeR atLeastOne
  pointwise

theorem outR_at (H : FVec Ideal S512x512 .f32) (y : FVec Ideal S512x6 .f32) (i : Fin 512) (a : Fin 4) :
    outR H y (ix2 i a) = Ideal.div (∑ x, H (ix2 i x) * y (ix2 x ⟨a.val, by omega⟩)) (max (∑ x, H (ix2 i x)) 1) := by
  unfold outR atLeastOne
  pointwise

/-- The last stage from a matrix of marks and the same matrix turned round. -/
theorem last_eq (h H : FVec Ideal S512x512 .f32) (hh : ∀ e v, h (ix2 e v) = H (ix2 v e)) (h0 : ∀ v e, H (ix2 v e) = (0 : EReal) ∨ H (ix2 v e) = (1 : EReal))
    (c : FVec Ideal S512x6 .f32) (i : Fin 512) (a : Fin 4) :
    k0_pay4 k0_pay5 c h (ix2 i a) = outR (hypR H (diagR (isoR H))) (edgeR (hypR H (diagR (isoR H))) c) (ix2 i a) := by
  have hj := joined_at h H hh h0
  generalize hypR H (diagR (isoR H)) = G at hj
  rw [outR_at]
  simp only [edgeR_at]
  unfold k0_pay4 k0_pay5
  pointwise
  simp only [hj]

theorem pay15_eq_sqdC {c : FVec Ideal S512x6 .f32} (hc : ∀ i, IsR (c i)) : k0_pay15 c = sqdC c := by
  funext i
  obtain ⟨r, j, rfl⟩ := pair_eta i
  rw [pay15_at hc, sqdC_at]

theorem sqdC_real {c : FVec Ideal S512x6 .f32} (hc : ∀ i, IsR (c i)) (i : S512x512.Idx) : IsR (sqdC c i) := by
  obtain ⟨r, j, rfl⟩ := pair_eta i
  rw [sqdC_at]
  exact dist6_real (fun a => hc _) fun a => hc _

/-- The two hypergraph stages are one function of finite centres. -/
theorem hyper_eq {c : FVec Ideal S512x6 .f32} (hc : ∀ i, IsR (c i)) : hyperK c = hyperR c := by
  funext q
  obtain ⟨i, a, rfl⟩ := pair_eta q
  unfold hyperK hyperR
  rw [pay15_eq_sqdC hc]
  have hk := rounds_at (sqdC c) 16
  have hr := incR_at (sqdC c) (sqdC_real hc)
  generalize (pickK^[16] (k0_pay16, sqdC c)).1 = h at hk
  generalize (incR (rowsR (nbrR (sqdC c))) colsR : FVec Ideal S512x512 .f32) = H at hr
  refine last_eq h H (fun e v => ?_) (fun v e => ?_) c i a
  · by_cases hp : Picked (fun v => sqdC c (ix2 e v)) 16 v
    · rw [((hk e).1 v).1 hp, (hr v e).1 hp]
    · rw [((hk e).1 v).2 hp, (hr v e).2 hp]
  · by_cases hp : Picked (fun v => sqdC c (ix2 e v)) 16 v
    · exact Or.inr ((hr v e).1 hp)
    · exact Or.inl ((hr v e).2 hp)

end Cert.Same

end
-- ==== Proof.Same.lean ====
/- From a finite input, the kernel's result and the reference's are the same array. -/
module

public import proofs.«01_k».proof.Pre_finite
public import proofs.«01_k».proof.Proof.RefRun
public import proofs.«01_k».proof.Proof.Step
public import proofs.«01_k».proof.Proof.Hyper

@[expose] public section

set_option maxRecDepth 16384

noncomputable section

namespace Cert.Same

open Idealize.ShloMosaic Cert.KernelIdeal Cert.KernelIdeal.Gen Cert.KernelIdeal.Value
open Cert.ReferenceIdeal.Value (ptsR cent0R stepR hyperR refOut)

/-- An extended real of size less than infinity is a real. -/
theorem real_of_abs_lt {x : EReal} (h : max x (-x) < ⊤) : IsR x := by
  induction x with
  | bot => simp at h
  | top => simp at h
  | coe r => exact ⟨r, rfl⟩

theorem real_of_pre [Cert.Pre_finite.Facts] (x : FVec Ideal S2x6x16384 .f32) (h : Cert.Pre_finite.fn x = fun _ => 1#1) (i : S2x6x16384.Idx) : IsR (x i) := by
  have hi := congrFun h i
  have e : Cert.Pre_finite.fn x i = BitVec.ofBool (decide (max (x i) (-(x i)) < Ideal.ofBits .f32 0x7F800000#32)) := rfl
  rw [e] at hi
  rw [bits_top] at hi
  refine real_of_abs_lt ?_
  by_contra q
  rw [decide_eq_false q] at hi
  exact absurd hi (by decide)

theorem pts_entry (x : FVec Ideal S2x6x16384 .f32) (i : S32768x6.Idx) : ∃ k, ptsK x i = x k := ⟨_, rfl⟩

theorem cent_entry (p : FVec Ideal S32768x6 .f32) (i : S512x6.Idx) : ∃ k, cent0K p i = p k := ⟨_, rfl⟩

theorem pts_eq (x : FVec Ideal S2x6x16384 .f32) : ptsK x = ptsR x := rfl

theorem cent_eq (p : FVec Ideal S32768x6 .f32) : cent0K p = cent0R p := rfl

theorem out_same (x : FVec Ideal S2x6x16384 .f32) (hx : ∀ i, IsR (x i)) : outK (ptsK x) (cent0K (ptsK x)) = refOut x := by
  have hp : ∀ i, IsR (ptsK x i) := fun i => by
    obtain ⟨k, e⟩ := pts_entry x i
    rw [e]
    exact hx k
  have hc : ∀ i, IsR (cent0K (ptsK x) i) := fun i => by
    obtain ⟨k, e⟩ := cent_entry (ptsK x) i
    rw [e]
    exact hp k
  obtain ⟨e, hr⟩ := steps_eq hp hc 7
  unfold outK refOut
  rw [hyper_eq hr, e, pts_eq, cent_eq]

end Cert.Same

end
-- ==== Proof.lean ====
/- The claims of this certificate. The frames of the kernel are the generated ones; the frame of the reference and the
   value claim come from the two runs, whose results are read as functions of the input (KernelValue, RefRun), and from
   the equality of these functions at a finite input (Same). -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.KernelValue
public import proofs.«01_k».proof.Proof.RefRun
public import proofs.«01_k».proof.Proof.Same
public import Idealize.ShloMosaic.Adequacy
public import Idealize.ShloMosaic.Init

@[expose] public section

noncomputable section

namespace Cert.Proof

open Idealize.ShloMosaic Idealize.SL.Sem

theorem preFacts : Cert.Pre_finite.Facts := ⟨by decide⟩

/-- The reference runs, its input ends unchanged and every counter reads zero. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run _ _ _).mono (fun _ h => ⟨fun c => (h.1 c).2, h.2⟩) (Cert.ReferenceIdeal.Value.run_out m g)

/-- The two programs leave equal results where the input is finite. -/
theorem values : Cert.algebraic_KernelIdeal_ReferenceIdeal_pre_finite (hKernelIdeal := Cert.KernelIdeal.Gen.facts)
    (hReferenceIdeal := Cert.ReferenceIdeal.Gen.facts) (hPre_finite := preFacts) := by
  intro m g m' g' hpre hin
  refine ⟨_, Cert.KernelIdeal.Value.run_out m g, ?_⟩
  refine (θ_run _ _ _).mono (fun _ h c => ⟨(h.1 c).1.trans ?_, (h.1 c).2⟩) (Cert.ReferenceIdeal.Value.run_out m' g')
  rw [Cert.Same.out_same _ (@Cert.Same.real_of_pre preFacts _ (hpre c)), Cert.ReferenceIdeal.Value.inR, hin c]

theorem claim : Cert.Claim :=
  ⟨Cert.Kernel.Gen.facts, Cert.KernelIdeal.Gen.facts, Cert.ReferenceIdeal.Gen.facts, preFacts,
    fun m g _ => Cert.Kernel.Gen.frame m g, fun m g _ => Cert.KernelIdeal.Gen.frame m g, fun m g _ => Cert.KernelIdeal.Gen.frame m g,
    fun m g _ => reference_frame m g, fun m g _ => reference_frame m g, trivial, values⟩

end Cert.Proof

end
